-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v19_2)) (v1 : (c : Dev Cert.Kernel3Ideal.nD) → Buf (Elt Ideal) ((c.tc : Thread Cert.Kernel3Ideal.nD Cert.Kernel3Ideal.τ).loc Cert.Kernel3Ideal.main_v19_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_2) = v0 c
          ∧ r.2.mem ((c.tc : Thread Cert.Kernel3Ideal.nD Cert.Kernel3Ideal.τ).loc Cert.Kernel3Ideal.main_v19_4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x8x64 : Shape := ⟨4, ![8, 4096, 8, 64]⟩
abbrev S8x4096x8 : Shape := ⟨3, ![8, 4096, 8]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x8 : S_.BroadcastsInDim S8x4096x8 (![] : Fin 0 → Fin S8x4096x8.rank)
  reducesTo_S8x4096x8_S_d0_1_2 : S8x4096x8.ReducesTo [0, 1, 2] S_

variable [Facts]

def fn {F : FTy → Type} [FloatOps F] (main_arg0 : FVec F S8x4096x8x64 .f32) (main_arg1 : FVec F S8x4096x8x64 .f32) (main_arg2 : FVec F S8x4096x8x64 .f32) (main_arg3 : FVec F S8x4096x8 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  let main_v9 : FVec F S8x4096x8 .f32 := Host.absf main_arg3
  let main_cst_2 : FVec F S_ .f32 := constant S_ .f32 0x7F800000#32
  let main_v10 : FVec F S8x4096x8 .f32 := broadcastInDim S8x4096x8 ![] bcast_S_S8x4096x8 main_cst_2
  let main_v11 : IVec S8x4096x8 1 := cmpf .olt main_v9 main_v10
  let main_c_3 : IVec S_ 1 := constantI S_ 1 1#1
  let main_v12 : IVec S_ 1 := (fun x v => Host.reduce IntOp.andi x v reducesTo_S8x4096x8_S_d0_1_2 h_S_) main_v11 main_c_3
  let main_v13 : IVec S_ 1 := andi main_v8 main_v12
  main_v13
-- ==== Kernel.lean ====
abbrev S8x4096x8x64 : Shape := ⟨4, ![8, 4096, 8, 64]⟩
abbrev S8x4096x8 : Shape := ⟨3, ![8, 4096, 8]⟩
abbrev S_ : Shape := ⟨0, ![]⟩
abbrev S8x4096x8x1 : Shape := ⟨4, ![8, 4096, 8, 1]⟩
abbrev S8x4096x8x6 : Shape := ⟨4, ![8, 4096, 8, 6]⟩
abbrev S8x4096x48 : Shape := ⟨3, ![8, 4096, 48]⟩
abbrev S8x4096x128 : Shape := ⟨3, ![8, 4096, 128]⟩
abbrev S8x128x4096 : Shape := ⟨3, ![8, 128, 4096]⟩
abbrev S8x4096x512 : Shape := ⟨3, ![8, 4096, 512]⟩
abbrev S8x512x4096 : Shape := ⟨3, ![8, 512, 4096]⟩
abbrev S8x16x256x512 : Shape := ⟨4, ![8, 16, 256, 512]⟩
abbrev S8x16x512x256 : Shape := ⟨4, ![8, 16, 512, 256]⟩
abbrev S1x128x4096 : Shape := ⟨3, ![1, 128, 4096]⟩
abbrev S1x4096x128 : Shape := ⟨3, ![1, 4096, 128]⟩
abbrev S1x16x128x256 : Shape := ⟨4, ![1, 16, 128, 256]⟩
abbrev S2x2x256x2048 : Shape := ⟨4, ![2, 2, 256, 2048]⟩
abbrev S2x2x80x2048 : Shape := ⟨4, ![2, 2, 80, 2048]⟩
abbrev S4x2x256x2048 : Shape := ⟨4, ![4, 2, 256, 2048]⟩
abbrev S256x1 : Shape := ⟨2, ![256, 1]⟩
abbrev S16x256 : Shape := ⟨2, ![16, 256]⟩
abbrev S1x128x2048 : Shape := ⟨3, ![1, 128, 2048]⟩
abbrev S128x2048 : Shape := ⟨2, ![128, 2048]⟩
abbrev S256x2048 : Shape := ⟨2, ![256, 2048]⟩
abbrev S1x2x256x2048 : Shape := ⟨4, ![1, 2, 256, 2048]⟩
abbrev S2x256x2048 : Shape := ⟨3, ![2, 256, 2048]⟩
abbrev S1x256x2048 : Shape := ⟨3, ![1, 256, 2048]⟩
abbrev S1x1x256x2048 : Shape := ⟨4, ![1, 1, 256, 2048]⟩
abbrev S2x80x2048 : Shape := ⟨3, ![2, 80, 2048]⟩
abbrev S1x2x80x2048 : Shape := ⟨4, ![1, 2, 80, 2048]⟩
abbrev S1x2048 : Shape := ⟨2, ![1, 2048]⟩
abbrev S1x256x128 : Shape := ⟨3, ![1, 256, 128]⟩
abbrev S256x128 : Shape := ⟨2, ![256, 128]⟩
abbrev S256x256 : Shape := ⟨2, ![256, 256]⟩
abbrev S1x256x1792 : Shape := ⟨3, ![1, 256, 1792]⟩
abbrev S256x1792 : Shape := ⟨2, ![256, 1792]⟩
abbrev S1x1x256x1792 : Shape := ⟨4, ![1, 1, 256, 1792]⟩
abbrev S1x256x1536 : Shape := ⟨3, ![1, 256, 1536]⟩
abbrev S256x1536 : Shape := ⟨2, ![256, 1536]⟩
abbrev S1x1x256x1536 : Shape := ⟨4, ![1, 1, 256, 1536]⟩
abbrev S1x256x1280 : Shape := ⟨3, ![1, 256, 1280]⟩
abbrev S256x1280 : Shape := ⟨2, ![256, 1280]⟩
abbrev S1x1x256x1280 : Shape := ⟨4, ![1, 1, 256, 1280]⟩
abbrev S2048 : Shape := ⟨1, ![2048]⟩
abbrev S1x1792 : Shape := ⟨2, ![1, 1792]⟩
abbrev S1792 : Shape := ⟨1, ![1792]⟩
abbrev S1x256 : Shape := ⟨2, ![1, 256]⟩
abbrev S1x256x1024 : Shape := ⟨3, ![1, 256, 1024]⟩
abbrev S256x1024 : Shape := ⟨2, ![256, 1024]⟩
abbrev S1x1x256x1024 : Shape := ⟨4, ![1, 1, 256, 1024]⟩
abbrev S1x256x768 : Shape := ⟨3, ![1, 256, 768]⟩
abbrev S256x768 : Shape := ⟨2, ![256, 768]⟩
abbrev S1x1x256x768 : Shape := ⟨4, ![1, 1, 256, 768]⟩
abbrev S1x1536 : Shape := ⟨2, ![1, 1536]⟩
abbrev S1536 : Shape := ⟨1, ![1536]⟩
abbrev S1x512 : Shape := ⟨2, ![1, 512]⟩
abbrev S1x1280 : Shape := ⟨2, ![1, 1280]⟩
abbrev S1280 : Shape := ⟨1, ![1280]⟩
abbrev S1x768 : Shape := ⟨2, ![1, 768]⟩
abbrev S1x1x128x256 : Shape := ⟨4, ![1, 1, 128, 256]⟩
abbrev S128x256 : Shape := ⟨2, ![128, 256]⟩
abbrev S64x256 : Shape := ⟨2, ![64, 256]⟩
abbrev S80x256 : Shape := ⟨2, ![80, 256]⟩
abbrev S1x80x2048 : Shape := ⟨3, ![1, 80, 2048]⟩
abbrev S80x2048 : Shape := ⟨2, ![80, 2048]⟩
abbrev S1x80x1792 : Shape := ⟨3, ![1, 80, 1792]⟩
abbrev S80x1792 : Shape := ⟨2, ![80, 1792]⟩
abbrev S1x256x512 : Shape := ⟨3, ![1, 256, 512]⟩
abbrev S256x512 : Shape := ⟨2, ![256, 512]⟩
abbrev S1x1x256x512 : Shape := ⟨4, ![1, 1, 256, 512]⟩
abbrev S1x256x256 : Shape := ⟨3, ![1, 256, 256]⟩
abbrev S1x1x256x256 : Shape := ⟨4, ![1, 1, 256, 256]⟩
abbrev S1x1024 : Shape := ⟨2, ![1, 1024]⟩
abbrev S1024 : Shape := ⟨1, ![1024]⟩
abbrev S768 : Shape := ⟨1, ![768]⟩
abbrev S1x80x1536 : Shape := ⟨3, ![1, 80, 1536]⟩
abbrev S80x1536 : Shape := ⟨2, ![80, 1536]⟩
abbrev S1x80x1280 : Shape := ⟨3, ![1, 80, 1280]⟩
abbrev S80x1280 : Shape := ⟨2, ![80, 1280]⟩
abbrev S512 : Shape := ⟨1, ![512]⟩
abbrev S256 : Shape := ⟨1, ![256]⟩
abbrev S1x80x1024 : Shape := ⟨3, ![1, 80, 1024]⟩
abbrev S80x1024 : Shape := ⟨2, ![80, 1024]⟩
abbrev S1x80x768 : Shape := ⟨3, ![1, 80, 768]⟩
abbrev S80x768 : Shape := ⟨2, ![80, 768]⟩
abbrev S1x80x512 : Shape := ⟨3, ![1, 80, 512]⟩
abbrev S80x512 : Shape := ⟨2, ![80, 512]⟩
abbrev S1x80x256 : Shape := ⟨3, ![1, 80, 256]⟩
abbrev S1x64x2048 : Shape := ⟨3, ![1, 64, 2048]⟩
abbrev S64x2048 : Shape := ⟨2, ![64, 2048]⟩
abbrev S1x1x2048 : Shape := ⟨3, ![1, 1, 2048]⟩
abbrev S2048x128 : Shape := ⟨2, ![2048, 128]⟩
abbrev S1x2048x128 : Shape := ⟨3, ![1, 2048, 128]⟩

abbrev nBuf : Space → Nat
  | .hbm => 61
  | .vmem => 16
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x4096x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8, .f32⟩
  | .hbm, ⟨11, _⟩ => ⟨S8x4096x8, .f32⟩
  | .hbm, ⟨12, _⟩ => ⟨S8x4096x8, .f32⟩
  | .hbm, ⟨13, _⟩ => ⟨S8x4096x8, .bf16⟩
  | .hbm, ⟨14, _⟩ => ⟨S8x4096x8, .f32⟩
  | .hbm, ⟨15, _⟩ => ⟨S8x4096x8, .f32⟩
  | .hbm, ⟨16, _⟩ => ⟨S8x4096x8, .bf16⟩
  | .hbm, ⟨17, _⟩ => ⟨S8x4096x8, .f32⟩
  | .hbm, ⟨18, _⟩ => ⟨S8x4096x8, .f32⟩
  | .hbm, ⟨19, _⟩ => ⟨S8x4096x8, .bf16⟩
  | .hbm, ⟨20, _⟩ => ⟨S_, .bf16⟩
  | .hbm, ⟨21, _⟩ => ⟨S8x4096x8, .bf16⟩
  | .hbm, ⟨22, _⟩ => ⟨S8x4096x8x1, .bf16⟩
  | .hbm, ⟨23, _⟩ => ⟨S8x4096x8x1, .bf16⟩
  | .hbm, ⟨24, _⟩ => ⟨S8x4096x8x1, .bf16⟩
  | .hbm, ⟨25, _⟩ => ⟨S8x4096x8x1, .bf16⟩
  | .hbm, ⟨26, _⟩ => ⟨S8x4096x8x1, .bf16⟩
  | .hbm, ⟨27, _⟩ => ⟨S8x4096x8x1, .bf16⟩
  | .hbm, ⟨28, _⟩ => ⟨S8x4096x8x6, .bf16⟩
  | .hbm, ⟨29, _⟩ => ⟨S8x4096x48, .bf16⟩
  | .hbm, ⟨30, _⟩ => ⟨S_, .i32⟩
  | .hbm, ⟨31, _⟩ => ⟨S_, .bf16⟩
  | .hbm, ⟨32, _⟩ => ⟨S8x4096x128, .bf16⟩
  | .hbm, ⟨33, _⟩ => ⟨S8x128x4096, .bf16⟩
  | .hbm, ⟨34, _⟩ => ⟨S8x4096x8, .bf16⟩
  | .hbm, ⟨35, _⟩ => ⟨S8x4096x8, .bf16⟩
  | .hbm, ⟨36, _⟩ => ⟨S8x4096x8, .bf16⟩
  | .hbm, ⟨37, _⟩ => ⟨S8x4096x8x1, .bf16⟩
  | .hbm, ⟨38, _⟩ => ⟨S8x4096x8x1, .bf16⟩
  | .hbm, ⟨39, _⟩ => ⟨S8x4096x8x1, .bf16⟩
  | .hbm, ⟨40, _⟩ => ⟨S8x4096x8x1, .bf16⟩
  | .hbm, ⟨41, _⟩ => ⟨S8x4096x8x1, .bf16⟩
  | .hbm, ⟨42, _⟩ => ⟨S8x4096x8x1, .bf16⟩
  | .hbm, ⟨43, _⟩ => ⟨S8x4096x8x6, .bf16⟩
  | .hbm, ⟨44, _⟩ => ⟨S8x4096x48, .bf16⟩
  | .hbm, ⟨45, _⟩ => ⟨S_, .i32⟩
  | .hbm, ⟨46, _⟩ => ⟨S_, .bf16⟩
  | .hbm, ⟨47, _⟩ => ⟨S8x4096x128, .bf16⟩
  | .hbm, ⟨48, _⟩ => ⟨S8x4096x512, .f32⟩
  | .hbm, ⟨49, _⟩ => ⟨S_, .f32⟩
  | .hbm, ⟨50, _⟩ => ⟨S_, .f32⟩
  | .hbm, ⟨51, _⟩ => ⟨S8x4096x512, .f32⟩
  | .hbm, ⟨52, _⟩ => ⟨S8x4096x512, .f32⟩
  | .hbm, ⟨53, _⟩ => ⟨S8x4096x512, .bf16⟩
  | .hbm, ⟨54, _⟩ => ⟨S8x512x4096, .bf16⟩
  | .hbm, ⟨55, _⟩ => ⟨S8x4096x512, .f32⟩
  | .hbm, ⟨56, _⟩ => ⟨S8x4096x512, .bf16⟩
  | .hbm, ⟨57, _⟩ => ⟨S8x4096x8x64, .bf16⟩
  | .hbm, ⟨58, _⟩ => ⟨S8x16x256x512, .bf16⟩
  | .hbm, ⟨59, _⟩ => ⟨S8x16x512x256, .bf16⟩
  | .hbm, ⟨60, _⟩ => ⟨S8x4096x512, .f32⟩
  | .local _ .vmem, ⟨0, _⟩ => ⟨S1x128x4096, .bf16⟩
  | .local _ .vmem, ⟨1, _⟩ => ⟨S1x128x4096, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x16x128x256, .bf16⟩
  | .local _ .vmem, ⟨9, _⟩ => ⟨S1x16x128x256, .bf16⟩
  | .local _ .vmem, ⟨10, _⟩ => ⟨S1x4096x128, .f32⟩
  | .local _ .vmem, ⟨11, _⟩ => ⟨S1x4096x128, .f32⟩
  | .local _ .vmem, ⟨12, _⟩ => ⟨S2x2x256x2048, .bf16⟩
  | .local _ .vmem, ⟨13, _⟩ => ⟨S2x2x80x2048, .f32⟩
  | .local _ .vmem, ⟨14, _⟩ => ⟨S4x2x256x2048, .f32⟩
  | .local _ .vmem, ⟨15, _⟩ => ⟨S4x2x256x2048, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_call2_v0 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x8x64 : Shape := ⟨4, ![8, 4096, 8, 64]⟩
abbrev S8x4096x8 : Shape := ⟨3, ![8, 4096, 8]⟩
abbrev S_ : Shape := ⟨0, ![]⟩
abbrev S8x8x4096 : Shape := ⟨3, ![8, 8, 4096]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x64x4096 : Shape := ⟨4, ![8, 8, 64, 4096]⟩
abbrev S8x4096x512 : Shape := ⟨3, ![8, 4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x4096x8, .f32⟩
  | .hbm, ⟨4, _⟩ => ⟨S_, .f32⟩
  | .hbm, ⟨5, _⟩ => ⟨S_, .f32⟩
  | .hbm, ⟨6, _⟩ => ⟨S8x4096x8, .f32⟩
  | .hbm, ⟨7, _⟩ => ⟨S8x8x4096, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S8x8x4096x1, .f32⟩
  | .hbm, ⟨13, _⟩ => ⟨S8x8x4096x4096, .f32⟩
  | .hbm, ⟨14, _⟩ => ⟨S8x8x4096x4096, .f32⟩
  | .hbm, ⟨15, _⟩ => ⟨S8x8x1x4096, .f32⟩
  | .hbm, ⟨16, _⟩ => ⟨S8x8x4096x4096, .f32⟩
  | .hbm, ⟨17, _⟩ => ⟨S8x8x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S_, .f32⟩
  | .hbm, ⟨33, _⟩ => ⟨S8x8x4096, .f32⟩
  | .hbm, ⟨34, _⟩ => ⟨S8x8x4096, .f32⟩
  | .hbm, ⟨35, _⟩ => ⟨S8x8x4096x1, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S_, .f32⟩
  | .hbm, ⟨40, _⟩ => ⟨S8x8x4096, .f32⟩
  | .hbm, ⟨41, _⟩ => ⟨S8x8x4096x1, .f32⟩
  | .hbm, ⟨42, _⟩ => ⟨S8x8x4096x4096, .f32⟩
  | .hbm, ⟨43, _⟩ => ⟨S8x8x4096x4096, .f32⟩
  | .hbm, ⟨44, _⟩ => ⟨S8x8x64x4096, .f32⟩
  | .hbm, ⟨45, _⟩ => ⟨S8x4096x8x64, .f32⟩
  | .hbm, ⟨46, _⟩ => ⟨S8x4096x512, .f32⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S4x1024 : Shape := ⟨2, ![4, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S32768x1024 : Shape := ⟨2, ![32768, 1024]⟩
abbrev S32768x512 : Shape := ⟨2, ![32768, 512]⟩
abbrev S8x512x4096 : Shape := ⟨3, ![8, 512, 4096]⟩
abbrev S4x32768x256 : Shape := ⟨3, ![4, 32768, 256]⟩
abbrev S4x1x1024 : Shape := ⟨3, ![4, 1, 1024]⟩
abbrev S512x1024 : Shape := ⟨2, ![512, 1024]⟩
abbrev S512x512 : Shape := ⟨2, ![512, 512]⟩
abbrev S1x512x512 : Shape := ⟨3, ![1, 512, 512]⟩
abbrev S1x512x256 : Shape := ⟨3, ![1, 512, 256]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x256x256 : Shape := ⟨3, ![1, 256, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S1x512 : Shape := ⟨2, ![1, 512]⟩
abbrev S1x512x1024 : Shape := ⟨3, ![1, 512, 1024]⟩
abbrev S512x256 : Shape := ⟨2, ![512, 256]⟩
abbrev S1024x2816 : Shape := ⟨2, ![1024, 2816]⟩
abbrev S256x2816 : Shape := ⟨2, ![256, 2816]⟩
abbrev S2816x1024 : Shape := ⟨2, ![2816, 1024]⟩
abbrev S1024x1024 : Shape := ⟨2, ![1024, 1024]⟩

abbrev nBuf : Space → Nat
  | .hbm => 30
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x8x4096x256, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024, .f32⟩
  | .hbm, ⟨8, _⟩ => ⟨S4x1024x5632, .f32⟩
  | .hbm, ⟨9, _⟩ => ⟨S4x2816x1024, .f32⟩
  | .hbm, ⟨10, _⟩ => ⟨S4x1024, .f32⟩
  | .hbm, ⟨11, _⟩ => ⟨S4x256x1024, .f32⟩
  | .hbm, ⟨12, _⟩ => ⟨S4x1024, .f32⟩
  | .hbm, ⟨13, _⟩ => ⟨S4x1024x1024, .f32⟩
  | .hbm, ⟨14, _⟩ => ⟨S32768x1024, .f32⟩
  | .hbm, ⟨15, _⟩ => ⟨S32768x512, .f32⟩
  | .hbm, ⟨16, _⟩ => ⟨S8x4096x512, .bf16⟩
  | .hbm, ⟨17, _⟩ => ⟨S8x512x4096, .bf16⟩
  | .hbm, ⟨18, _⟩ => ⟨S4x32768x256, .f32⟩
  | .hbm, ⟨19, _⟩ => ⟨S4x1x1024, .f32⟩
  | .hbm, ⟨20, _⟩ => ⟨S4x1024x1024, .bf16⟩
  | .hbm, ⟨21, _⟩ => ⟨S4x1x1024, .f32⟩
  | .hbm, ⟨22, _⟩ => ⟨S4x1x1024, .f32⟩
  | .hbm, ⟨23, _⟩ => ⟨S4x1024x5632, .bf16⟩
  | .hbm, ⟨24, _⟩ => ⟨S4x2816x1024, .bf16⟩
  | .hbm, ⟨25, _⟩ => ⟨S4x1x1024, .f32⟩
  | .hbm, ⟨26, _⟩ => ⟨S4x256x1024, .bf16⟩
  | .hbm, ⟨27, _⟩ => ⟨S4x1x1024, .f32⟩
  | .hbm, ⟨28, _⟩ => ⟨S4x1024x1024, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S1x1x512, .f32⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x2816, .bf16⟩
  | .local _ .vmem, ⟨13, _⟩ => ⟨S1x1024x2816, .bf16⟩
  | .local _ .vmem, ⟨14, _⟩ => ⟨S1x2816x1024, .bf16⟩
  | .local _ .vmem, ⟨15, _⟩ => ⟨S1x1x1024, .f32⟩
  | .local _ .vmem, ⟨16, _⟩ => ⟨S1x256x1024, .bf16⟩
  | .local _ .vmem, ⟨17, _⟩ => ⟨S1x1x1024, .f32⟩
  | .local _ .vmem, ⟨18, _⟩ => ⟨S1x1024x1024, .bf16⟩
  | .local _ .vmem, ⟨19, _⟩ => ⟨S512x1024, .f32⟩
  | .local _ .vmem, ⟨20, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S4x1024 : Shape := ⟨2, ![4, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S1x1024 : Shape := ⟨2, ![1, 1024]⟩
abbrev S1024 : Shape := ⟨1, ![1024]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 162
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S4x8x4096x256, .f32⟩
  | 4 => ⟨S4x1024, .f32⟩
  | 5 => ⟨S4x1024x1024, .f32⟩
  | 6 => ⟨S4x1024, .f32⟩
  | 7 => ⟨S4x1024, .f32⟩
  | 8 => ⟨S4x1024x5632, .f32⟩
  | 9 => ⟨S4x2816x1024, .f32⟩
  | 10 => ⟨S4x1024, .f32⟩
  | 11 => ⟨S4x256x1024, .f32⟩
  | 12 => ⟨S4x1024, .f32⟩
  | 13 => ⟨S4x1024x1024, .f32⟩
  | 14 => ⟨S1x1024, .f32⟩
  | 15 => ⟨S1024, .f32⟩
  | 16 => ⟨S512, .f32⟩
  | 17 => ⟨S512, .f32⟩
  | 18 => ⟨S8x4096x512, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x512, .f32⟩
  | 30 => ⟨S8x4096x512, .f32⟩
  | 31 => ⟨S1x1x512, .f32⟩
  | 32 => ⟨S8x4096x512, .f32⟩
  | 33 => ⟨S8x4096x512, .f32⟩
  | 34 => ⟨S8x4096x1024, .f32⟩
  | 35 => ⟨S1x1024x1024, .f32⟩
  | 36 => ⟨S1024x1024, .f32⟩
  | 37 => ⟨S8x4096x1024, .f32⟩
  | 38 => ⟨S1x1024, .f32⟩
  | 39 => ⟨S1024, .f32⟩
  | 40 => ⟨S8x4096x1024, .f32⟩
  | 41 => ⟨S_, .f32⟩
  | 42 => ⟨S8x4096, .f32⟩
  | 43 => ⟨S8x4096x1, .f32⟩
  | 44 => ⟨S_, .f32⟩
  | 45 => ⟨S8x4096x1, .f32⟩
  | 46 => ⟨S8x4096x1, .f32⟩
  | 47 => ⟨S_, .f32⟩
  | 48 => ⟨S8x4096x1, .f32⟩
  | 49 => ⟨S8x4096x1, .f32⟩
  | 50 => ⟨S8x4096x1, .f32⟩
  | 51 => ⟨S8x4096x1024, .f32⟩
  | 52 => ⟨S8x4096x1024, .f32⟩
  | 53 => ⟨S1x1x1024, .f32⟩
  | 54 => ⟨S8x4096x1024, .f32⟩
  | 55 => ⟨S8x4096x1024, .f32⟩
  | 56 => ⟨S8x4096x1024, .f32⟩
  | 57 => ⟨S1x1024, .f32⟩
  | 58 => ⟨S1024, .f32⟩
  | 59 => ⟨S8x4096x1024, .f32⟩
  | 60 => ⟨S_, .f32⟩
  | 61 => ⟨S8x4096, .f32⟩
  | 62 => ⟨S8x4096x1, .f32⟩
  | 63 => ⟨S_, .f32⟩
  | 64 => ⟨S8x4096x1, .f32⟩
  | 65 => ⟨S8x4096x1, .f32⟩
  | 66 => ⟨S_, .f32⟩
  | 67 => ⟨S8x4096x1, .f32⟩
  | 68 => ⟨S8x4096x1, .f32⟩
  | 69 => ⟨S8x4096x1, .f32⟩
  | 70 => ⟨S8x4096x1024, .f32⟩
  | 71 => ⟨S8x4096x1024, .f32⟩
  | 72 => ⟨S1x1x1024, .f32⟩
  | 73 => ⟨S8x4096x1024, .f32⟩
  | 74 => ⟨S8x4096x1024, .f32⟩
  | 75 => ⟨S1x1024x5632, .f32⟩
  | 76 => ⟨S1024x5632, .f32⟩
  | 77 => ⟨S8x4096x5632, .f32⟩
  | 78 => ⟨S8x4096x2816, .f32⟩
  | 79 => ⟨S8x4096x2816, .f32⟩
  | 80 => ⟨S8x4096x2816, .f32⟩
  | 81 => ⟨S8x4096x2816, .f32⟩
  | 82 => ⟨S_, .f32⟩
  | 83 => ⟨S8x4096x2816, .f32⟩
  | 84 => ⟨S8x4096x2816, .f32⟩
  | 85 => ⟨S_, .f32⟩
  | 86 => ⟨S8x4096x2816, .f32⟩
  | 87 => ⟨S8x4096x2816, .f32⟩
  | 88 => ⟨S8x4096x2816, .f32⟩
  | 89 => ⟨S8x4096x2816, .f32⟩
  | 90 => ⟨S1x2816x1024, .f32⟩
  | 91 => ⟨S2816x1024, .f32⟩
  | 92 => ⟨S8x4096x1024, .f32⟩
  | 93 => ⟨S1x1024, .f32⟩
  | 94 => ⟨S1024, .f32⟩
  | 95 => ⟨S8x4096x1024, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x1024, .f32⟩
  | 107 => ⟨S8x4096x1024, .f32⟩
  | 108 => ⟨S1x1x1024, .f32⟩
  | 109 => ⟨S8x4096x1024, .f32⟩
  | 110 => ⟨S8x4096x1024, .f32⟩
  | 111 => ⟨S8x4096x1024, .f32⟩
  | 112 => ⟨S1x8x4096x256, .f32⟩
  | 113 => ⟨S8x4096x256, .f32⟩
  | 114 => ⟨S1x256x1024, .f32⟩
  | 115 => ⟨S256x1024, .f32⟩
  | 116 => ⟨S8x4096x1024, .f32⟩
  | 117 => ⟨S1x1024, .f32⟩
  | 118 => ⟨S1024, .f32⟩
  | 119 => ⟨S8x4096x1024, .f32⟩
  | 120 => ⟨S_, .f32⟩
  | 121 => ⟨S8x4096, .f32⟩
  | 122 => ⟨S8x4096x1, .f32⟩
  | 123 => ⟨S_, .f32⟩
  | 124 => ⟨S8x4096x1, .f32⟩
  | 125 => ⟨S8x4096x1, .f32⟩
  | 126 => ⟨S_, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1024x1024, .f32⟩
  | 21 => ⟨S1024x1024, .f32⟩
  | 22 => ⟨S8x4096x1024, .f32⟩
  | 23 => ⟨S8x4096x1024, .f32⟩
  | 24 => ⟨S8x4096x1024, .f32⟩
  | 25 => ⟨S_, .f32⟩
  | 26 => ⟨S8x4096x1024, .f32⟩
  | 27 => ⟨S8x4096x1024, .f32⟩
  | 28 => ⟨S_, .f32⟩
  | 29 => ⟨S8x4096x1024, .f32⟩
  | 30 => ⟨S8x4096x1024, .f32⟩
  | 31 => ⟨S8x4096x1024, .f32⟩
  | 32 => ⟨S8x4096x1024, .f32⟩
  | 33 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_cst_10 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_11 : Ref sig .tc := ⟨.hbm, 120, rfl⟩
abbrev main_v86 : Ref sig .tc := ⟨.hbm, 121, rfl⟩
abbrev main_v87 : Ref sig .tc := ⟨.hbm, 122, rfl⟩
abbrev main_cst_12 : Ref sig .tc := ⟨.hbm, 123, rfl⟩
abbrev main_v88 : Ref sig .tc := ⟨.hbm, 124, rfl⟩
abbrev main_v89 : Ref sig .tc := ⟨.hbm, 125, rfl⟩
abbrev main_cst_13 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_14 : Ref sig .tc := ⟨.hbm, 136, rfl⟩
abbrev main_v99 : Ref sig .tc := ⟨.hbm, 137, rfl⟩
abbrev main_v100 : Ref sig .tc := ⟨.hbm, 138, rfl⟩
abbrev main_cst_15 : Ref sig .tc := ⟨.hbm, 139, rfl⟩
abbrev main_v101 : Ref sig .tc := ⟨.hbm, 140, rfl⟩
abbrev main_v102 : Ref sig .tc := ⟨.hbm, 141, rfl⟩
abbrev main_cst_16 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_17 : Ref sig .tc := ⟨.hbm, 153, rfl⟩
abbrev main_v113 : Ref sig .tc := ⟨.hbm, 154, rfl⟩
abbrev main_v114 : Ref sig .tc := ⟨.hbm, 155, rfl⟩
abbrev main_cst_18 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]
-- ==== Kernel3.lean ====
abbrev S8x4096x1024 : Shape := ⟨3, ![8, 4096, 1024]⟩
abbrev S4x1024 : Shape := ⟨2, ![4, 1024]⟩
abbrev S4x1024x2568 : Shape := ⟨3, ![4, 1024, 2568]⟩
abbrev S4x8 : Shape := ⟨2, ![4, 8]⟩
abbrev S4x512 : Shape := ⟨2, ![4, 512]⟩
abbrev S4x8x128x128 : Shape := ⟨4, ![4, 8, 128, 128]⟩
abbrev S4x8x128 : Shape := ⟨3, ![4, 8, 128]⟩
abbrev S128x384 : Shape := ⟨2, ![128, 384]⟩
abbrev S384x128 : Shape := ⟨2, ![384, 128]⟩
abbrev S128x1 : Shape := ⟨2, ![128, 1]⟩
abbrev S1x128 : Shape := ⟨2, ![1, 128]⟩
abbrev S256x256 : Shape := ⟨2, ![256, 256]⟩
abbrev S4x1024x512 : Shape := ⟨3, ![4, 1024, 512]⟩
abbrev S4x1024x1024 : Shape := ⟨3, ![4, 1024, 1024]⟩
abbrev S4x1024x8 : Shape := ⟨3, ![4, 1024, 8]⟩
abbrev S_ : Shape := ⟨0, ![]⟩
abbrev S4x1024x128 : Shape := ⟨3, ![4, 1024, 128]⟩
abbrev S4x128 : Shape := ⟨2, ![4, 128]⟩
abbrev S4x1x128 : Shape := ⟨3, ![4, 1, 128]⟩
abbrev S4x1x1024 : Shape := ⟨3, ![4, 1, 1024]⟩
abbrev S4x512x1 : Shape := ⟨3, ![4, 512, 1]⟩
abbrev S8x512x4096 : Shape := ⟨3, ![8, 512, 4096]⟩
abbrev S8x128x4096 : Shape := ⟨3, ![8, 128, 4096]⟩
abbrev S8x4096x512 : Shape := ⟨3, ![8, 4096, 512]⟩
abbrev S8x4096x128 : Shape := ⟨3, ![8, 4096, 128]⟩
abbrev S8x16x512x256 : Shape := ⟨4, ![8, 16, 512, 256]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x1024x128 : Shape := ⟨3, ![1, 1024, 128]⟩
abbrev S1x1x128 : Shape := ⟨3, ![1, 1, 128]⟩
abbrev S1x512x1 : Shape := ⟨3, ![1, 512, 1]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1x128x1024 : Shape := ⟨3, ![1, 128, 1024]⟩
abbrev S1x4x512x256 : Shape := ⟨4, ![1, 4, 512, 256]⟩
abbrev S2x512x256 : Shape := ⟨3, ![2, 512, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x1024 : Shape := ⟨2, ![1024, 1024]⟩
abbrev S1024x256 : Shape := ⟨2, ![1024, 256]⟩
abbrev S1024x128 : Shape := ⟨2, ![1024, 128]⟩
abbrev S256x128 : Shape := ⟨2, ![256, 128]⟩
abbrev S512x256 : Shape := ⟨2, ![512, 256]⟩
abbrev S1x512x256 : Shape := ⟨3, ![1, 512, 256]⟩
abbrev S1x1x512x256 : Shape := ⟨4, ![1, 1, 512, 256]⟩
abbrev S256x384 : Shape := ⟨2, ![256, 384]⟩
abbrev S128x128 : Shape := ⟨2, ![128, 128]⟩
abbrev S64x256 : Shape := ⟨2, ![64, 256]⟩
abbrev S1x256 : Shape := ⟨2, ![1, 256]⟩
abbrev S1x64x1 : Shape := ⟨3, ![1, 64, 1]⟩
abbrev S64x1 : Shape := ⟨2, ![64, 1]⟩
abbrev S1x1x128x128 : Shape := ⟨4, ![1, 1, 128, 128]⟩
abbrev S64x128 : Shape := ⟨2, ![64, 128]⟩
abbrev S1024x512 : Shape := ⟨2, ![1024, 512]⟩
abbrev S256x512 : Shape := ⟨2, ![256, 512]⟩
abbrev S1x256x512 : Shape := ⟨3, ![1, 256, 512]⟩
abbrev S128x256 : Shape := ⟨2, ![128, 256]⟩
abbrev S1x128x256 : Shape := ⟨3, ![1, 128, 256]⟩
abbrev S1x256x128 : Shape := ⟨3, ![1, 256, 128]⟩
abbrev S512x1 : Shape := ⟨2, ![512, 1]⟩

abbrev nBuf : Space → Nat
  | .hbm => 42
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2568, .f32⟩
  | .hbm, ⟨3, _⟩ => ⟨S4x8, .f32⟩
  | .hbm, ⟨4, _⟩ => ⟨S4x512, .f32⟩
  | .hbm, ⟨5, _⟩ => ⟨S4x8x128x128, .f32⟩
  | .hbm, ⟨6, _⟩ => ⟨S4x8x128, .f32⟩
  | .hbm, ⟨7, _⟩ => ⟨S4x1024, .f32⟩
  | .hbm, ⟨8, _⟩ => ⟨S128x384, .bf16⟩
  | .hbm, ⟨9, _⟩ => ⟨S384x128, .bf16⟩
  | .hbm, ⟨10, _⟩ => ⟨S128x1, .f32⟩
  | .hbm, ⟨11, _⟩ => ⟨S1x128, .f32⟩
  | .hbm, ⟨12, _⟩ => ⟨S256x256, .bf16⟩
  | .hbm, ⟨13, _⟩ => ⟨S4x1024x512, .f32⟩
  | .hbm, ⟨14, _⟩ => ⟨S4x1024x512, .f32⟩
  | .hbm, ⟨15, _⟩ => ⟨S4x1024x1024, .f32⟩
  | .hbm, ⟨16, _⟩ => ⟨S4x1024x1024, .bf16⟩
  | .hbm, ⟨17, _⟩ => ⟨S4x1024x1024, .bf16⟩
  | .hbm, ⟨18, _⟩ => ⟨S4x1024x512, .f32⟩
  | .hbm, ⟨19, _⟩ => ⟨S4x1024x512, .bf16⟩
  | .hbm, ⟨20, _⟩ => ⟨S4x1024x8, .f32⟩
  | .hbm, ⟨21, _⟩ => ⟨S4x1024x8, .bf16⟩
  | .hbm, ⟨22, _⟩ => ⟨S_, .i32⟩
  | .hbm, ⟨23, _⟩ => ⟨S_, .bf16⟩
  | .hbm, ⟨24, _⟩ => ⟨S4x1024x128, .bf16⟩
  | .hbm, ⟨25, _⟩ => ⟨S4x1024x1024, .f32⟩
  | .hbm, ⟨26, _⟩ => ⟨S4x1024x1024, .bf16⟩
  | .hbm, ⟨27, _⟩ => ⟨S4x1024x1024, .bf16⟩
  | .hbm, ⟨28, _⟩ => ⟨S_, .i32⟩
  | .hbm, ⟨29, _⟩ => ⟨S_, .f32⟩
  | .hbm, ⟨30, _⟩ => ⟨S4x128, .f32⟩
  | .hbm, ⟨31, _⟩ => ⟨S4x1x128, .f32⟩
  | .hbm, ⟨32, _⟩ => ⟨S4x1x1024, .f32⟩
  | .hbm, ⟨33, _⟩ => ⟨S4x512x1, .f32⟩
  | .hbm, ⟨34, _⟩ => ⟨S4x512, .f32⟩
  | .hbm, ⟨35, _⟩ => ⟨S4x512x1, .f32⟩
  | .hbm, ⟨36, _⟩ => ⟨S8x512x4096, .bf16⟩
  | .hbm, ⟨37, _⟩ => ⟨S8x128x4096, .bf16⟩
  | .hbm, ⟨38, _⟩ => ⟨S8x4096x512, .bf16⟩
  | .hbm, ⟨39, _⟩ => ⟨S8x4096x128, .bf16⟩
  | .hbm, ⟨40, _⟩ => ⟨S8x16x512x256, .bf16⟩
  | .hbm, ⟨41, _⟩ => ⟨S8x512x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x512, .bf16⟩
  | .local _ .vmem, ⟨5, _⟩ => ⟨S1x1024x128, .bf16⟩
  | .local _ .vmem, ⟨6, _⟩ => ⟨S1x1x128, .f32⟩
  | .local _ .vmem, ⟨7, _⟩ => ⟨S1x1024x1024, .bf16⟩
  | .local _ .vmem, ⟨8, _⟩ => ⟨S256x256, .bf16⟩
  | .local _ .vmem, ⟨9, _⟩ => ⟨S128x384, .bf16⟩
  | .local _ .vmem, ⟨10, _⟩ => ⟨S384x128, .bf16⟩
  | .local _ .vmem, ⟨11, _⟩ => ⟨S128x1, .f32⟩
  | .local _ .vmem, ⟨12, _⟩ => ⟨S1x128, .f32⟩
  | .local _ .vmem, ⟨13, _⟩ => ⟨S1x512x1, .f32⟩
  | .local _ .vmem, ⟨14, _⟩ => ⟨S1x8x128x128, .f32⟩
  | .local _ .vmem, ⟨15, _⟩ => ⟨S1x8x128, .f32⟩
  | .local _ .vmem, ⟨16, _⟩ => ⟨S1x512x1, .f32⟩
  | .local _ .vmem, ⟨17, _⟩ => ⟨S1x512x1024, .bf16⟩
  | .local _ .vmem, ⟨18, _⟩ => ⟨S1x512x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x4x512x256, .bf16⟩
  | .local _ .vmem, ⟨26, _⟩ => ⟨S1x4x512x256, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x128, .f32⟩
  | .local _ .vmem, ⟨30, _⟩ => ⟨S2x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev main_v19_4 : Ref sig .tc := ⟨.hbm, 40, rfl⟩
abbrev main_v19_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S8x4096x1024 : Shape := ⟨3, ![8, 4096, 1024]⟩
abbrev S4x1024 : Shape := ⟨2, ![4, 1024]⟩
abbrev S4x1024x2568 : Shape := ⟨3, ![4, 1024, 2568]⟩
abbrev S4x8 : Shape := ⟨2, ![4, 8]⟩
abbrev S4x512 : Shape := ⟨2, ![4, 512]⟩
abbrev S4x8x128x128 : Shape := ⟨4, ![4, 8, 128, 128]⟩
abbrev S4x8x128 : Shape := ⟨3, ![4, 8, 128]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2568 : Shape := ⟨3, ![1, 1024, 2568]⟩
abbrev S1024x2568 : Shape := ⟨2, ![1024, 2568]⟩
abbrev S8x4096x2568 : Shape := ⟨3, ![8, 4096, 2568]⟩
abbrev S8x4096x512 : Shape := ⟨3, ![8, 4096, 512]⟩
abbrev S8x4096x8 : Shape := ⟨3, ![8, 4096, 8]⟩
abbrev S8x16x256x512 : Shape := ⟨4, ![8, 16, 256, 512]⟩
abbrev S8x16x512x256 : Shape := ⟨4, ![8, 16, 512, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2568, .f32⟩
  | .hbm, ⟨3, _⟩ => ⟨S4x8, .f32⟩
  | .hbm, ⟨4, _⟩ => ⟨S4x512, .f32⟩
  | .hbm, ⟨5, _⟩ => ⟨S4x8x128x128, .f32⟩
  | .hbm, ⟨6, _⟩ => ⟨S4x8x128, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S1x1024x2568, .f32⟩
  | .hbm, ⟨27, _⟩ => ⟨S1024x2568, .f32⟩
  | .hbm, ⟨28, _⟩ => ⟨S8x4096x2568, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x8, .f32⟩
  | .hbm, ⟨33, _⟩ => ⟨S8x4096x1024, .f32⟩
  | .hbm, ⟨34, _⟩ => ⟨S8x16x256x512, .f32⟩
  | .hbm, ⟨35, _⟩ => ⟨S8x16x512x256, .f32⟩
  | .hbm, ⟨36, _⟩ => ⟨S8x4096x512, .bf16⟩
  | .hbm, ⟨37, _⟩ => ⟨S8x16x512x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Attn.Math.lean ====
/-
  The arithmetic of a softmax taken over the keys a block at a time, on extended reals.

  `S s t` is the score of key `s` for query `t`, `V d s` entry `d` of the value of key `s`. After the first `n` keys the
  running maximum of query `t` is `runMax S n t` (only keys `s ≤ t` count) and the running weighted sum is `runSum S V n d t`,
  its weights taken against that maximum. Adding `k` more keys rescales the old sum by `2 ^ (old maximum - new maximum)`
  (`runSum_add`); keys past the query change neither (`runMax_skip`, `runSum_skip`).
-/
module

public import Idealize.ShloMosaic.PureOps.Ideal
public import Idealize.ShloMosaic.PureOps.Ideal.Laws

@[expose] public section

namespace Cert.Attn

open Idealize.ShloMosaic

/-- `2 ^ x` is not negative. -/
theorem exp2_nonneg (x : EReal) : 0 ≤ Ideal.exp2 x := by
  induction x with
  | bot => simp
  | top => simp
  | coe r => rw [Ideal.exp2_coe]; exact_mod_cast Real.rpow_nonneg (by norm_num) r

/-- `2 ^ x` of an exponent that is not positive is not `⊤`. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- A difference whose subtrahend is at least the minuend is not `⊤`. -/
theorem sub_ne_top {a b : EReal} (h : a ≤ b) : a - b ≠ ⊤ := by
  induction a with
  | bot => simp
  | top => rw [top_le_iff.mp h]; simp
  | coe r =>
    induction b with
    | bot => exact absurd h (by simp)
    | top => simp
    | coe q => rw [← EReal.coe_sub]; exact EReal.coe_ne_top _

/-- Rescaling a weight from one maximum to a larger one. -/
theorem exp2_rescale {x a b : EReal} (h₁ : x ≤ a) (h₂ : a ≤ b) :
    Ideal.exp2 (a - b) * Ideal.exp2 (x - a) = Ideal.exp2 (x - b) := by
  induction x with
  | bot => simp [EReal.bot_sub]
  | top =>
    obtain rfl := top_le_iff.mp h₁
    obtain rfl := top_le_iff.mp h₂
    simp
  | coe r =>
    induction a with
    | bot => exact absurd h₁ (by simp)
    | top =>
      obtain rfl := top_le_iff.mp h₂
      simp
    | coe p =>
      induction b with
      | bot => exact absurd h₂ (by simp)
      | top => simp
      | coe q =>
        rw [← EReal.coe_sub, ← EReal.coe_sub, ← EReal.coe_sub, Ideal.exp2_coe, Ideal.exp2_coe, Ideal.exp2_coe, ← EReal.coe_mul]
        congr 1
        show (2 : ℝ) ^ (p - q) * (2 : ℝ) ^ (r - p) = (2 : ℝ) ^ (r - q)
        rw [← Real.rpow_add (by norm_num)]
        congr 1
        ring

/-- A factor that is not negative and not `⊤` goes into a finite sum. -/
theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

variable (S : ℕ → ℕ → EReal) (V : ℕ → ℕ → EReal)

/-- The score of key `s` for query `t`, `-∞` where the key comes after the query. -/
noncomputable def masked (s t : ℕ) : EReal := if s ≤ t then S s t else ⊥

/-- The largest score of query `t` among its first `n` keys. -/
noncomputable def runMax (n t : ℕ) : EReal := (Finset.range n).sup fun s => masked S s t

/-- The weighted sum of query `t` over its first `n` keys, entry `d`, the weights relative to `runMax`. -/
noncomputable def runSum (n d t : ℕ) : EReal :=
  ∑ s ∈ Finset.range n, Ideal.exp2 (masked S s t - runMax S n t) * V d s

theorem masked_le_runMax {n s t : ℕ} (h : s < n) : masked S s t ≤ runMax S n t :=
  Finset.le_sup (f := fun s => masked S s t) (Finset.mem_range.mpr h)

theorem runMax_zero (t : ℕ) : runMax S 0 t = ⊥ := by simp [runMax]

theorem runSum_zero (d t : ℕ) : runSum S V 0 d t = 0 := by simp [runSum]

/-- The maximum over `n + k` keys is that over `n` and that over the next `k`. -/
theorem runMax_add (n k t : ℕ) :
    runMax S (n + k) t = max (runMax S n t) ((Finset.range k).sup fun s => masked S (n + s) t) := by
  unfold runMax
  rw [Finset.range_eq_Ico, Finset.range_eq_Ico, ← Finset.Ico_union_Ico_eq_Ico (Nat.zero_le n) (Nat.le_add_right n k), Finset.sup_union]
  congr 1
  have h : Finset.Ico n (n + k) = (Finset.Ico 0 k).image (n + ·) := by
    rw [Finset.image_add_left_Ico, Nat.add_zero]
  rw [h, Finset.sup_image, ← Finset.range_eq_Ico]
  rfl

theorem runMax_le_add (n k t : ℕ) : runMax S n t ≤ runMax S (n + k) t := by
  rw [runMax_add]; exact le_max_left _ _

/-- `k` more keys: the old sum rescaled, and the new keys' terms. -/
theorem runSum_add (n k d t : ℕ) :
    runSum S V (n + k) d t = Ideal.exp2 (runMax S n t - runMax S (n + k) t) * runSum S V n d t
      + ∑ s ∈ Finset.range k, Ideal.exp2 (masked S (n + s) t - runMax S (n + k) t) * V d (n + s) := by
  have hle := runMax_le_add S n k t
  rw [runSum, Finset.sum_range_add, runSum, mul_sum _ _ (exp2_nonneg _) (exp2_ne_top (sub_ne_top hle))]
  refine congrArg (· + _) (Finset.sum_congr rfl fun s hs => ?_)
  rw [← mul_assoc, exp2_rescale (masked_le_runMax S (Finset.mem_range.mp hs)) hle]

/-- Keys that come after the query leave its maximum alone. -/
theorem runMax_skip {n k t : ℕ} (h : t < n) : runMax S (n + k) t = runMax S n t := by
  rw [runMax_add]
  refine max_eq_left (Finset.sup_le fun s _ => ?_)
  rw [masked, if_neg (by omega)]
  exact bot_le

/-- Keys that come after the query leave its sum alone. -/
theorem runSum_skip {n k d t : ℕ} (h : t < n) : runSum S V (n + k) d t = runSum S V n d t := by
  rw [runSum, runSum, Finset.sum_range_add, runMax_skip S h]
  refine (congrArg (_ + ·) (Finset.sum_eq_zero fun s _ => ?_)).trans (add_zero _)
  rw [masked, if_neg (by omega), EReal.bot_sub, Ideal.exp2_bot, zero_mul]

end Cert.Attn

end
-- ==== Proof.Attn.Step.lean ====
/-
  One key block of the forgetting attention, at any width of the query columns it covers.

  A query tile has 2048 columns. A key block of 256 keys meets the columns `lo .. 2047` of its tile, `w = 2048 - lo` of
  them: all of them for a block before the tile, the columns from its own first key on for a block of the tile itself.
  What the kernel does with one block for one head is stated here once, over that width: the scores it stores
  (`scores_apply`), the new maximum, the weights and the factor (`newMax`, `weights`, `factor`), and the accumulator
  rows it stores back (`State.step`). `AccAt`, `SlotIs` say what a list of stores leaves in one head's accumulator and in
  one head's slot.
-/
module

public import proofs.«01_k».proof.Proof.Attn.Math
public import Idealize.ShloMosaic.Lib.Pointwise
public import Idealize.ShloMosaic.Lib.MatmulPlain
public import Idealize.ShloMosaic.Lib.Pipeline.Value
public import Idealize.ShloMosaic.Lib.WordCmp

@[expose] public section

noncomputable section

namespace Cert.Attn

open Idealize.ShloMosaic
open Idealize.ShloMosaic.View (Piece)

/-! ## What a list of stores leaves -/

/-- A scratch of two query tiles, two heads, `R` rows, 2048 columns: the accumulators at 80 rows, the queries at 256. -/
abbrev TileShape (R : ℕ) : Shape := ⟨4, ![2, 2, R, 2048]⟩
/-- The score and weight slots: four slots, two heads, 256 keys, 2048 columns. -/
abbrev SlotShape : Shape := ⟨4, ![4, 2, 256, 2048]⟩
/-- One head's part of a slot over `w` columns. -/
abbrev PartShape (w : ℕ) : Shape := ⟨4, ![1, 1, 256, w]⟩

/-- After the stores `L`, the rows of head `h` of tile `a` hold `g`. -/
def TileIs {R : ℕ} {e : EltTy} (L : List (Piece (Elt Ideal) (TileShape R) e)) (a h : ℕ) (g : ℕ → ℕ → Elt Ideal e) : Prop :=
  ∀ y : (TileShape R).Idx, (y 0).val = a → (y 1).val = h → View.canon L y = g (y 2).val (y 3).val

/-- After the stores `L`, columns `lo ..` of slot `a`, head `h`, hold `u`. -/
def SlotIs {e : EltTy} (L : List (Piece (Elt Ideal) SlotShape e)) (a h lo : ℕ) {w : ℕ} (u : (PartShape w).Idx → Elt Ideal e) : Prop :=
  ∀ (y : SlotShape.Idx) (x : (PartShape w).Idx), (y 0).val = a → (y 1).val = h → (y 2).val = (x 2).val →
    (y 3).val = lo + (x 3).val → View.canon L y = u x

/-- The latest store is the slot's. -/
theorem SlotIs.here {e : EltTy} {a h lo w : ℕ} (inb : ∀ k, (![a, h, 0, lo] : Fin 4 → ℕ) k + (PartShape w).size k ≤ SlotShape.size k)
    (u : (PartShape w).Idx → Elt Ideal e) (L : List (Piece (Elt Ideal) SlotShape e)) :
    SlotIs (⟨Rect.unit (s := SlotShape) ![a, h, 0, lo] (PartShape w).size inb, u⟩ :: L) a h lo u := by
  intro y x h0 h1 h2 h3
  have hy : (Rect.unit (s := SlotShape) ![a, h, 0, lo] (PartShape w).size inb).emb x = y := by
    funext k
    apply Fin.ext
    have e0 := (x 0).isLt
    have e1 := (x 1).isLt
    match k with
    | ⟨0, _⟩ => show a + 1 * (x 0).val = (y 0).val; change (x 0).val < 1 at e0; omega
    | ⟨1, _⟩ => show h + 1 * (x 1).val = (y 1).val; change (x 1).val < 1 at e1; omega
    | ⟨2, _⟩ => show 0 + 1 * (x 2).val = (y 2).val; omega
    | ⟨3, _⟩ => show lo + 1 * (x 3).val = (y 3).val; omega
  rw [← hy]
  exact View.canon_cons_emb _ _ _ _

/-- The latest store is into another slot or head. -/
theorem SlotIs.skip {e : EltTy} {a h lo w a' h' lo' w' : ℕ}
    (inb : ∀ k, (![a', h', 0, lo'] : Fin 4 → ℕ) k + (PartShape w').size k ≤ SlotShape.size k)
    (u' : (PartShape w').Idx → Elt Ideal e) {u : (PartShape w).Idx → Elt Ideal e} {L : List (Piece (Elt Ideal) SlotShape e)}
    (hne : (a' == a && h' == h) = false) (hL : SlotIs L a h lo u) :
    SlotIs (⟨Rect.unit (s := SlotShape) ![a', h', 0, lo'] (PartShape w').size inb, u'⟩ :: L) a h lo u := by
  intro y x h0 h1 h2 h3
  refine (View.canon_cons_of_not_mem _ _ ?_).trans (hL y x h0 h1 h2 h3)
  intro hm
  rw [LoadRect.mem_set] at hm
  obtain ⟨i, hi, ei⟩ := hm 0
  obtain ⟨j, hj, ej⟩ := hm 1
  change i < 1 at hi
  change j < 1 at hj
  change (y 0).val = a' + 1 * i at ei
  change (y 1).val = h' + 1 * j at ej
  have hb : (a' == a && h' == h) = true := by
    rw [Bool.and_eq_true, beq_iff_eq, beq_iff_eq]
    omega
  exact Bool.noConfusion (hb.symm.trans hne)

/-- A load of the slot's columns reads them. -/
theorem SlotIs.read {sig : RefSig} {κ : Kind} {sp : Space} {e : EltTy} {v : View sig κ sp SlotShape e} {a h lo w : ℕ}
    {inb : ∀ k, (![a, h, 0, lo] : Fin 4 → ℕ) k + (PartShape w).size k ≤ SlotShape.size k}
    {u : (PartShape w).Idx → Elt Ideal e} {L : List (Piece (Elt Ideal) SlotShape e)} (hL : SlotIs L a h lo u) :
    v.readCov L (Rect.unit (s := SlotShape) ![a, h, 0, lo] (PartShape w).size inb).toLoadRect = u := by
  rw [View.readCov_eq_canon']
  funext x
  have e0 := (x 0).isLt
  have e1 := (x 1).isLt
  change (x 0).val < 1 at e0
  change (x 1).val < 1 at e1
  refine hL _ x ?_ ?_ ?_ ?_
  · show a + 1 * (x 0).val = a; omega
  · show h + 1 * (x 1).val = h; omega
  · show 0 + 1 * (x 2).val = (x 2).val; omega
  · show lo + 1 * (x 3).val = lo + (x 3).val; omega

section Tile

variable {R : ℕ} {e : EltTy} {a h lo w : ℕ} {inb0 : ∀ k, (![a, 0, 0, 0] : Fin 4 → ℕ) k + (⟨4, ![1, 2, R, 2048]⟩ : Shape).size k ≤ (TileShape R).size k}

/-- The rectangle of rows `r ..` and columns `lo ..` of head `h` within tile `a`, as the kernel names it: a slice of the
tile, squeezed, then a slice of that. -/
abbrev tileRect (R a h r lo n w : ℕ) (inb0 : ∀ k, (![a, 0, 0, 0] : Fin 4 → ℕ) k + (⟨4, ![1, 2, R, 2048]⟩ : Shape).size k ≤ (TileShape R).size k)
    (inb : ∀ k, (![h, r, lo] : Fin 3 → ℕ) k + (⟨3, ![1, n, w]⟩ : Shape).size k ≤ (⟨3, ![2, R, 2048]⟩ : Shape).size k)
    (h0 : (![1, 2, R, 2048] : Fin 4 → ℕ) 0 = 1) (hs : ∀ i : Fin 3, (![1, 2, R, 2048] : Fin 4 → ℕ) i.succ = ![2, R, 2048] i)
    (hst : ∀ k, (Rect.unit (s := TileShape R) ![a, 0, 0, 0] (⟨4, ![1, 2, R, 2048]⟩ : Shape).size inb0).stride k = 1) : Rect (TileShape R) :=
  (Rect.unit (s := TileShape R) ![a, 0, 0, 0] (⟨4, ![1, 2, R, 2048]⟩ : Shape).size inb0).within
    ((Rect.unit (s := ⟨3, ![2, R, 2048]⟩) ![h, r, lo] (⟨3, ![1, n, w]⟩ : Shape).size inb).consLift ![1, 2, R, 2048] h0 hs) hst

/-- The same as the place of a load. -/
abbrev tileLoad (R a h r lo n w : ℕ) (inb0 : ∀ k, (![a, 0, 0, 0] : Fin 4 → ℕ) k + (⟨4, ![1, 2, R, 2048]⟩ : Shape).size k ≤ (TileShape R).size k)
    (inb : ∀ k, (![h, r, lo] : Fin 3 → ℕ) k + (⟨3, ![1, n, w]⟩ : Shape).size k ≤ (⟨3, ![2, R, 2048]⟩ : Shape).size k)
    (h0 : (![1, 2, R, 2048] : Fin 4 → ℕ) 0 = 1) (hs : ∀ i : Fin 3, (![1, 2, R, 2048] : Fin 4 → ℕ) i.succ = ![2, R, 2048] i)
    (hst : ∀ k, (Rect.unit (s := TileShape R) ![a, 0, 0, 0] (⟨4, ![1, 2, R, 2048]⟩ : Shape).size inb0).stride k = 1) : LoadRect (TileShape R) :=
  (Rect.unit (s := TileShape R) ![a, 0, 0, 0] (⟨4, ![1, 2, R, 2048]⟩ : Shape).size inb0).withinL
    ((Rect.unit (s := ⟨3, ![2, R, 2048]⟩) ![h, r, lo] (⟨3, ![1, n, w]⟩ : Shape).size inb).toLoadRect.consLift ![1, 2, R, 2048] h0 hs) hst

/-- The latest store is into this head's columns `lo ..`: they hold its payload, the columns before hold what they held. -/
theorem TileIs.here {inb h0 hs hst} (hw : lo + w = 2048)
    {hR : (tileRect R a h 0 lo R w inb0 inb h0 hs hst).shape.numel = (⟨3, ![1, R, w]⟩ : Shape).numel}
    {v : (⟨3, ![1, R, w]⟩ : Shape).Idx → Elt Ideal e} {L : List (Piece (Elt Ideal) (TileShape R) e)} {g g' : ℕ → ℕ → Elt Ideal e}
    (hv : ∀ (d : Fin R) (t : Fin w), v (ix3 0 d t) = g' d.val (lo + t.val))
    (hlo : ∀ d t, t < lo → g' d t = g d t) (hL : TileIs L a h g) :
    TileIs (⟨tileRect R a h 0 lo R w inb0 inb h0 hs hst, fun y => v (Shape.reshapeEquiv hR y)⟩ :: L) a h g' := by
  intro y e0 e1
  have l2 := (y 2).isLt
  have l3 := (y 3).isLt
  change (y 2).val < R at l2
  change (y 3).val < 2048 at l3
  by_cases hy : (y 3).val < lo
  · rw [hlo _ _ hy, ← hL y e0 e1]
    refine View.canon_cons_of_not_mem _ _ fun hm => ?_
    rw [LoadRect.mem_set] at hm
    obtain ⟨i, hi, ei⟩ := hm 3
    change (y 3).val = (0 + lo) + 1 * i at ei
    omega
  · let x : (tileRect R a h 0 lo R w inb0 inb h0 hs hst).shape.Idx := fun k => match k with
      | ⟨0, _⟩ => ⟨0, Nat.one_pos⟩
      | ⟨1, _⟩ => ⟨0, Nat.one_pos⟩
      | ⟨2, _⟩ => ⟨(y 2).val, l2⟩
      | ⟨3, _⟩ => ⟨(y 3).val - lo, show (y 3).val - lo < w by omega⟩
    have hx : (tileRect R a h 0 lo R w inb0 inb h0 hs hst).emb x = y := by
      funext k
      apply Fin.ext
      match k with
      | ⟨0, _⟩ => show (a + 0) + 1 * 0 = (y 0).val; omega
      | ⟨1, _⟩ => show (0 + h) + 1 * 0 = (y 1).val; omega
      | ⟨2, _⟩ => show (0 + 0) + 1 * (y 2).val = (y 2).val; omega
      | ⟨3, _⟩ => show (0 + lo) + 1 * ((y 3).val - lo) = (y 3).val; omega
    rw [← congrArg (View.canon _) hx, View.canon_cons_emb]
    have hz := Rect.payAlong_consLift (Rect.unit (s := ⟨3, ![2, R, 2048]⟩) ![h, 0, lo] (⟨3, ![1, R, w]⟩ : Shape).size inb)
      ![1, 2, R, 2048] h0 hs v hR x (ix3 0 ⟨(y 2).val, l2⟩ ⟨(y 3).val - lo, by omega⟩) (fun k => by
        match k with
        | ⟨0, _⟩ => rfl
        | ⟨1, _⟩ => rfl
        | ⟨2, _⟩ => rfl)
    refine hz.trans ((hv _ _).trans ?_)
    show g' (y 2).val (lo + ((y 3).val - lo)) = g' (y 2).val (y 3).val
    rw [Nat.add_sub_of_le (by omega)]

/-- The latest store is into the other head. -/
theorem TileIs.skip {h' : ℕ} {inb h0 hs hst} {u} {L : List (Piece (Elt Ideal) (TileShape R) e)} {g : ℕ → ℕ → Elt Ideal e}
    (hne : (h' == h) = false) (hL : TileIs L a h g) : TileIs (⟨tileRect R a h' 0 lo R w inb0 inb h0 hs hst, u⟩ :: L) a h g := by
  intro y e0 e1
  refine (View.canon_cons_of_not_mem _ _ fun hm => ?_).trans (hL y e0 e1)
  rw [LoadRect.mem_set] at hm
  obtain ⟨i, hi, ei⟩ := hm 1
  change i < 1 at hi
  change (y 1).val = (0 + h') + 1 * i at ei
  have hb : (h' == h) = true := by rw [beq_iff_eq]; omega
  exact Bool.noConfusion (hb.symm.trans hne)

/-- A load of rows `r ..` and columns `lo ..` of a head reads them. -/
theorem TileIs.read {r n : ℕ} {sig : RefSig} {κ : Kind} {sp : Space} {v : View sig κ sp (TileShape R) e} {inb : ∀ k, (![h, r, lo] : Fin 3 → ℕ) k + (⟨3, ![1, n, w]⟩ : Shape).size k ≤ (⟨3, ![2, R, 2048]⟩ : Shape).size k} {h0 hs hst}
    {L : List (Piece (Elt Ideal) (TileShape R) e)} {g : ℕ → ℕ → Elt Ideal e} (hL : TileIs L a h g)
    (hR : (⟨3, ![1, n, w]⟩ : Shape).numel = (tileLoad R a h r lo n w inb0 inb h0 hs hst).shape.numel)
    (d : Fin n) (t : Fin w) :
    v.readCov L (tileLoad R a h r lo n w inb0 inb h0 hs hst)
      (Shape.reshapeEquiv hR (ix3 0 d t)) = g (r + d.val) (lo + t.val) := by
  rw [View.readCov_eq_canon']
  have hx : Shape.reshapeEquiv hR (ix3 0 d t) = Fin.cons ⟨0, Nat.one_pos⟩ (ix3 0 d t) :=
    Shape.reshapeEquiv_cons_one (d := ![1, n, w]) _ _
  have hz := hL ((tileLoad R a h r lo n w inb0 inb h0 hs hst).idx
      (Fin.cons ⟨0, Nat.one_pos⟩ (ix3 0 d t)))
    (by show (a + 0) + 1 * 0 = a; omega) (by show (0 + h) + 1 * 0 = h; omega)
  show View.canon L (LoadRect.idx _ (Shape.reshapeEquiv hR (ix3 0 d t))) = _
  rw [hx]
  refine hz.trans ?_
  show g ((0 + r) + 1 * d.val) ((0 + lo) + 1 * t.val) = _
  congr 1 <;> omega

end Tile

section Init

variable {R : ℕ} {e : EltTy} {a h : ℕ}

/-- The latest store covers the whole tile with one value. -/
theorem TileIs.fill (z : Elt Ideal e) (inb0 : ∀ k, (![a, 0, 0, 0] : Fin 4 → ℕ) k + (⟨4, ![1, 2, R, 2048]⟩ : Shape).size k ≤ (TileShape R).size k)
    (v : (⟨4, ![1, 2, R, 2048]⟩ : Shape).Idx → Elt Ideal e) (L : List (Piece (Elt Ideal) (TileShape R) e)) (hv : ∀ x, v x = z) (hh : h < 2) :
    TileIs (⟨Rect.unit (s := TileShape R) ![a, 0, 0, 0] (⟨4, ![1, 2, R, 2048]⟩ : Shape).size inb0, v⟩ :: L) a h (fun _ _ => z) := by
  intro y e0 e1
  let x : (⟨4, ![1, 2, R, 2048]⟩ : Shape).Idx := fun k => match k with
    | ⟨0, _⟩ => ⟨0, Nat.one_pos⟩
    | ⟨1, _⟩ => ⟨h, hh⟩
    | ⟨2, _⟩ => y 2
    | ⟨3, _⟩ => y 3
  have hx : (Rect.unit (s := TileShape R) ![a, 0, 0, 0] (⟨4, ![1, 2, R, 2048]⟩ : Shape).size inb0).emb x = y := by
    funext k
    apply Fin.ext
    match k with
    | ⟨0, _⟩ => show a + 1 * 0 = (y 0).val; omega
    | ⟨1, _⟩ => show 0 + 1 * h = (y 1).val; omega
    | ⟨2, _⟩ => show 0 + 1 * (y 2).val = (y 2).val; omega
    | ⟨3, _⟩ => show 0 + 1 * (y 3).val = (y 3).val; omega
  rw [← congrArg (View.canon _) hx, View.canon_cons_emb]
  exact hv x

/-- The latest store covers this head of the tile. -/
theorem TileIs.head {g : ℕ → ℕ → Elt Ideal e} (inb : ∀ k, (![a, h, 0, 0] : Fin 4 → ℕ) k + (⟨4, ![1, 1, R, 2048]⟩ : Shape).size k ≤ (TileShape R).size k)
    (v : (⟨4, ![1, 1, R, 2048]⟩ : Shape).Idx → Elt Ideal e) (L : List (Piece (Elt Ideal) (TileShape R) e))
    (hv : ∀ (d : Fin R) (t : Fin 2048), v (ix4 0 0 d t) = g d.val t.val) :
    TileIs (⟨Rect.unit (s := TileShape R) ![a, h, 0, 0] (⟨4, ![1, 1, R, 2048]⟩ : Shape).size inb, v⟩ :: L) a h g := by
  intro y e0 e1
  have hx : (Rect.unit (s := TileShape R) ![a, h, 0, 0] (⟨4, ![1, 1, R, 2048]⟩ : Shape).size inb).emb (ix4 0 0 (y 2) (y 3)) = y := by
    funext k
    apply Fin.ext
    match k with
    | ⟨0, _⟩ => show a + 1 * 0 = (y 0).val; omega
    | ⟨1, _⟩ => show h + 1 * 0 = (y 1).val; omega
    | ⟨2, _⟩ => show 0 + 1 * (y 2).val = (y 2).val; omega
    | ⟨3, _⟩ => show 0 + 1 * (y 3).val = (y 3).val; omega
  rw [← congrArg (View.canon _) hx, View.canon_cons_emb]
  exact hv (y 2) (y 3)

/-- The latest store is into another tile or head. -/
theorem TileIs.other {a' h' : ℕ} {g : ℕ → ℕ → Elt Ideal e} (inb : ∀ k, (![a', h', 0, 0] : Fin 4 → ℕ) k + (⟨4, ![1, 1, R, 2048]⟩ : Shape).size k ≤ (TileShape R).size k)
    (v : (⟨4, ![1, 1, R, 2048]⟩ : Shape).Idx → Elt Ideal e) {L : List (Piece (Elt Ideal) (TileShape R) e)}
    (hne : (a' == a && h' == h) = false) (hL : TileIs L a h g) :
    TileIs (⟨Rect.unit (s := TileShape R) ![a', h', 0, 0] (⟨4, ![1, 1, R, 2048]⟩ : Shape).size inb, v⟩ :: L) a h g := by
  intro y e0 e1
  refine (View.canon_cons_of_not_mem _ _ fun hm => ?_).trans (hL y e0 e1)
  rw [LoadRect.mem_set] at hm
  obtain ⟨i, hi, ei⟩ := hm 0
  obtain ⟨j, hj, ej⟩ := hm 1
  change i < 1 at hi
  change j < 1 at hj
  change (y 0).val = a' + 1 * i at ei
  change (y 1).val = h' + 1 * j at ej
  have hb : (a' == a && h' == h) = true := by
    rw [Bool.and_eq_true, beq_iff_eq, beq_iff_eq]
    omega
  exact Bool.noConfusion (hb.symm.trans hne)

end Init

/-! ## Vectors read at an index, at sizes that are variables -/

section Read

variable {α : Type} {a b : ℕ}

theorem cast_row (v : (⟨1, ![b]⟩ : Shape).Idx → α) (h : (⟨1, ![b]⟩ : Shape).ShapeCasts ⟨2, ![1, b]⟩) (j : Fin b) :
    shapeCast (⟨2, ![1, b]⟩ : Shape) v h (ix2 0 j) = v (ix1 j) := by
  refine shapeCast_apply _ _ _ _ ?_
  rw [Shape.rowMajor_val_one, Shape.rowMajor_val_two]
  simp

theorem cast_drop1 (v : (⟨3, ![1, a, b]⟩ : Shape).Idx → α) (h : (⟨3, ![1, a, b]⟩ : Shape).ShapeCasts ⟨2, ![a, b]⟩) (i : Fin a) (j : Fin b) :
    shapeCast (⟨2, ![a, b]⟩ : Shape) v h (ix2 i j) = v (ix3 0 i j) := by
  refine shapeCast_apply _ _ _ _ ?_
  rw [Shape.rowMajor_val_three, Shape.rowMajor_val_two]
  simp

theorem cast_add1 (v : (⟨2, ![a, b]⟩ : Shape).Idx → α) (h : (⟨2, ![a, b]⟩ : Shape).ShapeCasts ⟨3, ![1, a, b]⟩) (i : Fin a) (j : Fin b) :
    shapeCast (⟨3, ![1, a, b]⟩ : Shape) v h (ix3 0 i j) = v (ix2 i j) := by
  refine shapeCast_apply _ _ _ _ ?_
  rw [Shape.rowMajor_val_three, Shape.rowMajor_val_two]
  simp

theorem cast_drop2 (v : (⟨4, ![1, 1, a, b]⟩ : Shape).Idx → α) (h : (⟨4, ![1, 1, a, b]⟩ : Shape).ShapeCasts ⟨2, ![a, b]⟩) (i : Fin a) (j : Fin b) :
    shapeCast (⟨2, ![a, b]⟩ : Shape) v h (ix2 i j) = v (ix4 0 0 i j) := by
  refine shapeCast_apply _ _ _ _ ?_
  rw [Shape.rowMajor_val_four, Shape.rowMajor_val_two]
  simp

theorem cast_add2 (v : (⟨2, ![a, b]⟩ : Shape).Idx → α) (h : (⟨2, ![a, b]⟩ : Shape).ShapeCasts ⟨4, ![1, 1, a, b]⟩) (i : Fin a) (j : Fin b) :
    shapeCast (⟨4, ![1, 1, a, b]⟩ : Shape) v h (ix4 0 0 i j) = v (ix2 i j) := by
  refine shapeCast_apply _ _ _ _ ?_
  rw [Shape.rowMajor_val_four, Shape.rowMajor_val_two]
  simp

theorem bcast_row (v : (⟨2, ![1, b]⟩ : Shape).Idx → α) (h : (⟨2, ![1, b]⟩ : Shape).Broadcasts ⟨2, ![a, b]⟩) (i : Fin a) (j : Fin b) :
    broadcastTo (⟨2, ![a, b]⟩ : Shape) v h (ix2 i j) = v (ix2 0 j) := by
  refine broadcastTo_apply _ _ _ _ fun k => ?_
  match k with
  | ⟨0, _⟩ => rfl
  | ⟨1, _⟩ =>
    show j.val = if b = 1 then 0 else j.val
    have := j.isLt
    split <;> omega

/-- A maximum down the rows, from −∞. -/
theorem maxRows_apply (x : FVec Ideal ⟨2, ![a, b]⟩ .f32) (h) (j : Fin b) :
    multiReduction .maximumf [0] (⟨1, ![b]⟩ : Shape) x 0xFF800000#32 h (.inl rfl) rfl (ix1 j) = Finset.univ.sup fun i : Fin a => x (ix2 i j) := by
  pointwise
  have hb : Ideal.ofBits FTy.f32 4286578688#32 = ⊥ := by
    simp [Ideal.ofBits, Ideal.ieee]
  rw [hb]
  rfl

end Read

/-- A matrix product at a row and a column. -/
theorem mm_apply {M K N : ℕ} {φ₁ φ₂ : FTy} (wf) (l : FVec Ideal ⟨2, ![M, K]⟩ φ₁) (r : FVec Ideal ⟨2, ![K, N]⟩ φ₂)
    (acc : FVec Ideal ⟨2, ![M, N]⟩ .f32) (i : Fin M) (j : Fin N) :
    FloatOps.matmul (⟨[1], [0], [0], [1], [], [], wf⟩ : DotDims ⟨2, ![M, K]⟩ ⟨2, ![K, N]⟩ ⟨2, ![M, N]⟩) none l r acc (ix2 i j)
      = acc (ix2 i j) + ∑ k : Fin K, l (ix2 i k) * r (ix2 k j) := by
  simp only [ix2_eq_valueIdx]
  exact Ideal.matmul_plain_apply none l r acc i j

/-! ## One key block -/

section Block

variable {S : ℕ → ℕ → EReal} {V : ℕ → ℕ → EReal} {n T lo w : ℕ}

/-- The maximum carried after a block: of the one before and the block's scores. -/
abbrev newMax {w : ℕ} (h1 : (⟨2, ![256, w]⟩ : Shape).Reduces [0] ⟨1, ![w]⟩) (h2 : (⟨1, ![w]⟩ : Shape).ShapeCasts ⟨2, ![1, w]⟩)
    (mp : FVec Ideal ⟨2, ![1, w]⟩ .f32) (x : FVec Ideal ⟨2, ![256, w]⟩ .f32) : FVec Ideal ⟨2, ![1, w]⟩ .f32 :=
  maximumf mp (shapeCast (⟨2, ![1, w]⟩ : Shape) (multiReduction .maximumf [0] (⟨1, ![w]⟩ : Shape) x 0xFF800000#32 h1 (.inl rfl) rfl) h2)

/-- The block's weights, in the slot's shape. -/
abbrev weights {w : ℕ} (h1 : (⟨2, ![1, w]⟩ : Shape).Broadcasts ⟨2, ![256, w]⟩) (h2 : FTy.bits .bf16 < FTy.bits .f32)
    (h3 : (⟨2, ![256, w]⟩ : Shape).ShapeCasts (PartShape w)) (x : FVec Ideal ⟨2, ![256, w]⟩ .f32) (mn : FVec Ideal ⟨2, ![1, w]⟩ .f32) :
    FVec Ideal (PartShape w) .bf16 :=
  shapeCast (PartShape w) (truncf .bf16 (exp2 (subf x (broadcastTo (⟨2, ![256, w]⟩ : Shape) mn h1))) h2) h3

theorem newMax_apply {h1 h2} {mp : FVec Ideal ⟨2, ![1, w]⟩ .f32} {x : FVec Ideal ⟨2, ![256, w]⟩ .f32}
    (hm : ∀ t : Fin w, mp (ix2 0 t) = runMax S n (T + t.val))
    (hx : ∀ (s : Fin 256) (t : Fin w), x (ix2 s t) = masked S (n + s.val) (T + t.val)) (t : Fin w) :
    newMax h1 h2 mp x (ix2 0 t) = runMax S (n + 256) (T + t.val) := by
  rw [runMax_add, ← hm t]
  show max (mp (ix2 0 t)) (shapeCast _ _ _ (ix2 0 t)) = _
  rw [cast_row, maxRows_apply]
  congr 1
  simp only [hx]
  apply le_antisymm
  · exact Finset.sup_le fun s _ => Finset.le_sup (f := fun s => masked S (n + s) (T + t.val)) (Finset.mem_range.mpr s.isLt)
  · exact Finset.sup_le fun s hs => Finset.le_sup (f := fun s : Fin 256 => masked S (n + s.val) (T + t.val)) (Finset.mem_univ (⟨s, Finset.mem_range.mp hs⟩ : Fin 256))

theorem weights_apply {h1 h2 h3} {x : FVec Ideal ⟨2, ![256, w]⟩ .f32} {mn : FVec Ideal ⟨2, ![1, w]⟩ .f32} (s : Fin 256) (t : Fin w) :
    weights h1 h2 h3 x mn (ix4 0 0 s t) = Ideal.exp2 (x (ix2 s t) - mn (ix2 0 t)) := by
  unfold weights
  rw [cast_add2]
  show Ideal.exp2 (x (ix2 s t) - broadcastTo _ mn h1 (ix2 s t)) = _
  rw [bcast_row]

/-- The accumulator's new rows, at the columns the block covers. -/
theorem newAcc_apply {h1 h2 h3 h4 h5} {mp mn : FVec Ideal ⟨2, ![1, w]⟩ .f32} {o : FVec Ideal ⟨3, ![1, 80, w]⟩ .f32}
    {vx : FVec Ideal ⟨2, ![80, 256]⟩ .bf16} {p : FVec Ideal (PartShape w) .bf16}
    (hm : ∀ t : Fin w, mp (ix2 0 t) = runMax S n (T + t.val))
    (hn : ∀ t : Fin w, mn (ix2 0 t) = runMax S (n + 256) (T + t.val))
    (ho : ∀ (d : Fin 80) (t : Fin w), o (ix3 0 d t) = runSum S V n d.val (T + t.val))
    (hv : ∀ (d : Fin 80) (s : Fin 256), vx (ix2 d s) = V d.val (n + s.val))
    (hp : ∀ (s : Fin 256) (t : Fin w), p (ix4 0 0 s t) = Ideal.exp2 (masked S (n + s.val) (T + t.val) - runMax S (n + 256) (T + t.val)))
    (d : Fin 80) (t : Fin w) :
    shapeCast (⟨3, ![1, 80, w]⟩ : Shape) (addf (mulf (broadcastTo (⟨2, ![80, w]⟩ : Shape) (exp2 (subf mp mn)) h1) (shapeCast (⟨2, ![80, w]⟩ : Shape) o h2))
      (FloatOps.matmul ⟨[1], [0], [0], [1], [], [], h5⟩ none vx (shapeCast (⟨2, ![256, w]⟩ : Shape) p h3) (constant (⟨2, ![80, w]⟩ : Shape) .f32 0x00000000#32))) h4 (ix3 0 d t)
      = runSum S V (n + 256) d.val (T + t.val) := by
  rw [cast_add1]
  show broadcastTo _ (exp2 (subf mp mn)) h1 (ix2 d t) * shapeCast _ o h2 (ix2 d t) + FloatOps.matmul _ none vx _ _ (ix2 d t) = _
  rw [bcast_row, cast_drop1, mm_apply, runSum_add, ho]
  show Ideal.exp2 (mp (ix2 0 t) - mn (ix2 0 t)) * _ + (Ideal.ofBits .f32 0x00000000#32 + _) = _
  have hz : Ideal.ofBits FTy.f32 0x00000000#32 = 0 := by pointwise
  rw [hm, hn, hz, zero_add, Finset.sum_range]
  congr 1
  refine Finset.sum_congr rfl fun s _ => ?_
  rw [cast_drop2, hp, hv, mul_comm]

end Block

/-! ## The state between two key blocks -/

/-- After `n` keys: head `h` of tile `a` holds the tile's running sums, and `m` its running maxima. `T` is the tile's first
query. -/
structure State (S V : ℕ → ℕ → EReal) (T n : ℕ) (L : List (Piece (Elt Ideal) (TileShape 80) .f32)) (a h : ℕ)
    (m : FVec Ideal ⟨2, ![1, 2048]⟩ .f32) : Prop where
  acc : TileIs L a h fun d t => runSum S V n d (T + t)
  max : ∀ t : Fin 2048, m (ix2 0 t) = runMax S n (T + t.val)

section State

variable {S V : ℕ → ℕ → EReal} {T n a h lo w : ℕ} {L : List (Piece (Elt Ideal) (TileShape 80) .f32)}

/-- A store into the other head. -/
theorem State.skip {m h' inb0 inb h0 hs hst u} (hne : (h' == h) = false) (hS : State S V T n L a h m) :
    State S V T n (⟨tileRect 80 a h' 0 lo 80 w inb0 inb h0 hs hst, u⟩ :: L) a h m :=
  ⟨hS.acc.skip hne, hS.max⟩

/-- Before the first key: zeros, and −∞. -/
theorem State.start {m} (inb0) (v : (⟨4, ![1, 2, 80, 2048]⟩ : Shape).Idx → EReal) (hv : ∀ x, v x = 0) (hm : ∀ i, m i = ⊥) (hh : h < 2) :
    State S V T 0 (⟨Rect.unit (s := TileShape 80) ![a, 0, 0, 0] (⟨4, ![1, 2, 80, 2048]⟩ : Shape).size inb0, v⟩ :: L) a h m := by
  refine ⟨?_, fun t => by rw [hm, runMax_zero]⟩
  have := TileIs.fill (R := 80) (e := .f32) (a := a) (h := h) (0 : EReal) inb0 v L hv hh
  simpa only [runSum_zero] using this

variable {sig : RefSig} {κ : Kind} {sp : Space} {v : View sig κ sp (TileShape 80) .f32} {inb0 inb h0 hs hst inb0' inb' h0' hs' hst'}
  {h1 h2 h3 h4 h5 k1 k2 b1 b2 b3}
  {hR : (tileRect 80 a h 0 lo 80 w inb0 inb h0 hs hst).shape.numel = (⟨3, ![1, 80, w]⟩ : Shape).numel}
  {hR' : (⟨3, ![1, 80, w]⟩ : Shape).numel = (tileLoad 80 a h 0 lo 80 w inb0' inb' h0' hs' hst').shape.numel}
  {vx : FVec Ideal ⟨2, ![80, 256]⟩ .bf16} {p : FVec Ideal (PartShape w) .bf16}

/-- One block, from the scores `x` it uses and the maxima `mp` it starts from, over the columns `lo ..`. -/
theorem State.step {m m' : FVec Ideal ⟨2, ![1, 2048]⟩ .f32} {mp : FVec Ideal ⟨2, ![1, w]⟩ .f32} {x : FVec Ideal ⟨2, ![256, w]⟩ .f32}
    (hw : lo + w = 2048) (hlo : ∀ t, t < lo → T + t < n) (hS : State S V T n L a h m)
    (hmp : ∀ (t : Fin w) (t' : Fin 2048), t'.val = lo + t.val → mp (ix2 0 t) = m (ix2 0 t'))
    (hx : ∀ (s : Fin 256) (t : Fin w), x (ix2 s t) = masked S (n + s.val) (T + (lo + t.val)))
    (hm₁ : ∀ t' : Fin 2048, t'.val < lo → m' (ix2 0 t') = m (ix2 0 t'))
    (hm₂ : ∀ (t : Fin w) (t' : Fin 2048), t'.val = lo + t.val → m' (ix2 0 t') = newMax k1 k2 mp x (ix2 0 t))
    (hv : ∀ (d : Fin 80) (s : Fin 256), vx (ix2 d s) = V d.val (n + s.val))
    (hp : p = weights b1 b2 b3 x (newMax k1 k2 mp x)) :
    State S V T (n + 256) (⟨tileRect 80 a h 0 lo 80 w inb0 inb h0 hs hst,
      fun y => shapeCast (⟨3, ![1, 80, w]⟩ : Shape) (addf (mulf (broadcastTo (⟨2, ![80, w]⟩ : Shape) (exp2 (subf mp (newMax k1 k2 mp x))) h1)
        (shapeCast (⟨2, ![80, w]⟩ : Shape) (fun i => v.readCov L (tileLoad 80 a h 0 lo 80 w inb0' inb' h0' hs' hst') (Shape.reshapeEquiv hR' i)) h2))
        (FloatOps.matmul ⟨[1], [0], [0], [1], [], [], h5⟩ none vx (shapeCast (⟨2, ![256, w]⟩ : Shape) p h3) (constant (⟨2, ![80, w]⟩ : Shape) .f32 0x00000000#32))) h4 (Shape.reshapeEquiv hR y)⟩ :: L) a h m' := by
  have hmp' : ∀ t : Fin w, mp (ix2 0 t) = runMax S n (T + lo + t.val) := fun t => by
    rw [hmp t ⟨lo + t.val, by have := t.isLt; omega⟩ rfl, hS.max, Nat.add_assoc]
  have hx' : ∀ (s : Fin 256) (t : Fin w), x (ix2 s t) = masked S (n + s.val) (T + lo + t.val) := fun s t => by
    rw [hx, Nat.add_assoc]
  have hn := fun t => newMax_apply (h1 := k1) (h2 := k2) hmp' hx' t
  refine ⟨?_, fun t' => ?_⟩
  · refine TileIs.here (R := 80) (e := .f32) hw (g := fun d t => runSum S V n d (T + t)) (fun d t => ?_) (fun d t ht => runSum_skip S V (hlo t ht)) hS.acc
    refine (newAcc_apply (S := S) (V := V) (n := n) (T := T + lo) hmp' hn (fun d t => ?_) hv (fun s t => ?_) d t).trans ?_
    · refine (TileIs.read hS.acc _ d t).trans ?_
      show runSum S V n (0 + d.val) (T + (lo + t.val)) = _
      rw [Nat.zero_add, Nat.add_assoc]
    · rw [hp, weights_apply, hx', hn]
    · show _ = runSum S V (n + 256) d.val (T + (lo + t.val))
      rw [Nat.add_assoc]
  · by_cases hc : t'.val < lo
    · rw [hm₁ t' hc, hS.max, runMax_skip S (hlo _ hc)]
    · have hlt := t'.isLt
      rw [hm₂ ⟨t'.val - lo, by omega⟩ t' (by show t'.val = lo + (t'.val - lo); omega), hn]
      show runMax S (n + 256) (T + lo + (t'.val - lo)) = _
      congr 1
      omega

end State

/-! ## The three kinds of key block -/

section Kinds

variable {S V : ℕ → ℕ → EReal} {T n a h lo w : ℕ} {L : List (Piece (Elt Ideal) (TileShape 80) .f32)}
  {sig : RefSig} {κ : Kind} {sp : Space}

/-- The store of one block, from the weights' and values' vectors, the maxima before and after, and what the accumulator held. -/
abbrev accPiece (a h lo w : ℕ) (v : View sig κ sp (TileShape 80) .f32) (L : List (Piece (Elt Ideal) (TileShape 80) .f32))
    (mp mn : FVec Ideal ⟨2, ![1, w]⟩ .f32) (vx : FVec Ideal ⟨2, ![80, 256]⟩ .bf16) (p : FVec Ideal (PartShape w) .bf16)
    (inb0 inb h0 hs hst inb0' inb' h0' hs' hst') (h1 : (⟨2, ![1, w]⟩ : Shape).Broadcasts ⟨2, ![80, w]⟩)
    (h2 : (⟨3, ![1, 80, w]⟩ : Shape).ShapeCasts ⟨2, ![80, w]⟩) (h3 : (PartShape w).ShapeCasts ⟨2, ![256, w]⟩)
    (h4 : (⟨2, ![80, w]⟩ : Shape).ShapeCasts ⟨3, ![1, 80, w]⟩) (h5 : DotDims.WF ⟨2, ![80, 256]⟩ ⟨2, ![256, w]⟩ ⟨2, ![80, w]⟩ [1] [0] [0] [1] [] [])
    (hR : (tileRect 80 a h 0 lo 80 w inb0 inb h0 hs hst).shape.numel = (⟨3, ![1, 80, w]⟩ : Shape).numel)
    (hR' : (⟨3, ![1, 80, w]⟩ : Shape).numel = (tileLoad 80 a h 0 lo 80 w inb0' inb' h0' hs' hst').shape.numel) :
    Piece (Elt Ideal) (TileShape 80) .f32 :=
  ⟨tileRect 80 a h 0 lo 80 w inb0 inb h0 hs hst, fun y => shapeCast (⟨3, ![1, 80, w]⟩ : Shape)
    (addf (mulf (broadcastTo (⟨2, ![80, w]⟩ : Shape) (exp2 (subf mp mn)) h1)
        (shapeCast (⟨2, ![80, w]⟩ : Shape) (fun i => v.readCov L (tileLoad 80 a h 0 lo 80 w inb0' inb' h0' hs' hst') (Shape.reshapeEquiv hR' i)) h2))
      (FloatOps.matmul ⟨[1], [0], [0], [1], [], [], h5⟩ none vx (shapeCast (⟨2, ![256, w]⟩ : Shape) p h3)
        (constant (⟨2, ![80, w]⟩ : Shape) .f32 0x00000000#32))) h4 (Shape.reshapeEquiv hR y)⟩

variable {v : View sig κ sp (TileShape 80) .f32} {inb0 inb h0 hs hst inb0' inb' h0' hs' hst' h1 h2 h3 h4 h5 k1 k2 b1 b2 b3 c1 c2 c3 c4 c6}
  {vx : FVec Ideal ⟨2, ![80, 256]⟩ .bf16}

/-- A block before the tile: every key counts for every query. -/
theorem State.full {hR hR'} {m : FVec Ideal ⟨2, ![1, 2048]⟩ .f32} {st : FVec Ideal (PartShape 2048) .f32} {p : FVec Ideal (PartShape 2048) .bf16}
    (hT : n + 256 ≤ T) (hsc : ∀ (s : Fin 256) (t : Fin 2048), st (ix4 0 0 s t) = S (n + s.val) (T + (0 + t.val)))
    (hv : ∀ (d : Fin 80) (s : Fin 256), vx (ix2 d s) = V d.val (n + s.val))
    (hp : p = weights b1 b2 b3 (shapeCast (⟨2, ![256, 2048]⟩ : Shape) st c1) (newMax k1 k2 m (shapeCast (⟨2, ![256, 2048]⟩ : Shape) st c1)))
    (hS : State S V T n L a h m) :
    State S V T (n + 256) (accPiece a h 0 2048 v L m (newMax k1 k2 m (shapeCast (⟨2, ![256, 2048]⟩ : Shape) st c1)) vx p
      inb0 inb h0 hs hst inb0' inb' h0' hs' hst' h1 h2 h3 h4 h5 hR hR' :: L) a h (newMax k1 k2 m (shapeCast (⟨2, ![256, 2048]⟩ : Shape) st c1)) := by
  refine State.step (lo := 0) (w := 2048) rfl (fun t ht => absurd ht (by omega)) hS (fun t t' e => ?_) (fun s t => ?_) (fun t' ht => absurd ht (by omega))
    (fun t t' e => ?_) hv hp
  · rw [show t' = t from Fin.ext (by omega)]
  · have := s.isLt
    rw [cast_drop2, hsc, masked, if_pos (by omega)]
  · rw [show t' = t from Fin.ext (by omega)]

/-- The scores of a block of the tile itself: −∞ where the key is after the query. -/
theorem diagScores_apply {st : FVec Ideal (PartShape w) .f32} {neg : EReal} (hneg : neg = ⊥) (hT : n = T + lo) (hw : lo + w = 2048)
    (hsc : ∀ (s : Fin 256) (t : Fin w), st (ix4 0 0 s t) = S (n + s.val) (T + (lo + t.val))) (s : Fin 256) (t : Fin w) :
    select (cmpi .sle (iota .tc (⟨2, ![256, w]⟩ : Shape) 32 [0] c2) (iota .tc (⟨2, ![256, w]⟩ : Shape) 32 [1] c3))
      (shapeCast (⟨2, ![256, w]⟩ : Shape) st c1) (broadcast (⟨2, ![256, w]⟩ : Shape) neg) (ix2 s t) = masked S (n + s.val) (T + (lo + t.val)) := by
  have e1 : iota .tc (⟨2, ![256, w]⟩ : Shape) 32 [0] c2 (ix2 s t) = BitVec.ofNat 32 s.val := by pointwise
  have e2 : iota .tc (⟨2, ![256, w]⟩ : Shape) 32 [1] c3 (ix2 s t) = BitVec.ofNat 32 t.val := by pointwise
  show Scalar.select (IntOp.cmpi .sle (iota .tc (⟨2, ![256, w]⟩ : Shape) 32 [0] c2 (ix2 s t)) (iota .tc (⟨2, ![256, w]⟩ : Shape) 32 [1] c3 (ix2 s t)))
    (shapeCast (⟨2, ![256, w]⟩ : Shape) st c1 (ix2 s t)) neg = _
  have := s.isLt
  have := t.isLt
  rw [e1, e2, WordCmp.cmpi_sle_ofNat (w := 32) (a := s.val) (b := t.val) (by omega) (by omega), cast_drop2, hsc, masked, hneg]
  by_cases hc : s.val ≤ t.val
  · rw [if_pos (by omega)]; simp [hc, Scalar.select]
  · rw [if_neg (by omega)]; simp [hc, Scalar.select]

/-- The tile's own first block. -/
theorem State.diag0 {hR hR'} {m : FVec Ideal ⟨2, ![1, 2048]⟩ .f32} {st : FVec Ideal (PartShape 2048) .f32} {neg : EReal} {p : FVec Ideal (PartShape 2048) .bf16}
    (hneg : neg = ⊥) (hT : n = T + 0) (hsc : ∀ (s : Fin 256) (t : Fin 2048), st (ix4 0 0 s t) = S (n + s.val) (T + (0 + t.val)))
    (hv : ∀ (d : Fin 80) (s : Fin 256), vx (ix2 d s) = V d.val (n + s.val))
    (hp : p = weights b1 b2 b3 (select (cmpi .sle (iota .tc (⟨2, ![256, 2048]⟩ : Shape) 32 [0] c2) (iota .tc (⟨2, ![256, 2048]⟩ : Shape) 32 [1] c3))
        (shapeCast (⟨2, ![256, 2048]⟩ : Shape) st c1) (broadcast (⟨2, ![256, 2048]⟩ : Shape) neg))
      (newMax k1 k2 m (select (cmpi .sle (iota .tc (⟨2, ![256, 2048]⟩ : Shape) 32 [0] c2) (iota .tc (⟨2, ![256, 2048]⟩ : Shape) 32 [1] c3))
        (shapeCast (⟨2, ![256, 2048]⟩ : Shape) st c1) (broadcast (⟨2, ![256, 2048]⟩ : Shape) neg))))
    (hS : State S V T n L a h m) :
    State S V T (n + 256) (accPiece a h 0 2048 v L m
      (newMax k1 k2 m (select (cmpi .sle (iota .tc (⟨2, ![256, 2048]⟩ : Shape) 32 [0] c2) (iota .tc (⟨2, ![256, 2048]⟩ : Shape) 32 [1] c3))
        (shapeCast (⟨2, ![256, 2048]⟩ : Shape) st c1) (broadcast (⟨2, ![256, 2048]⟩ : Shape) neg))) vx p
      inb0 inb h0 hs hst inb0' inb' h0' hs' hst' h1 h2 h3 h4 h5 hR hR' :: L) a h
      (newMax k1 k2 m (select (cmpi .sle (iota .tc (⟨2, ![256, 2048]⟩ : Shape) 32 [0] c2) (iota .tc (⟨2, ![256, 2048]⟩ : Shape) 32 [1] c3))
        (shapeCast (⟨2, ![256, 2048]⟩ : Shape) st c1) (broadcast (⟨2, ![256, 2048]⟩ : Shape) neg))) := by
  refine State.step (lo := 0) (w := 2048) rfl (fun t ht => absurd ht (by omega)) hS (fun t t' e => ?_) (diagScores_apply hneg hT rfl hsc)
    (fun t' ht => absurd ht (by omega)) (fun t t' e => ?_) hv hp
  · rw [show t' = t from Fin.ext (by omega)]
  · rw [show t' = t from Fin.ext (by omega)]

/-- A later block of the tile: it covers the columns from its own first key on. -/
theorem State.diag {hR hR'} {c5 : Shape.Concatenates [⟨2, ![1, lo]⟩, ⟨2, ![1, w]⟩] ⟨2, ![1, 2048]⟩ 1} {m : FVec Ideal ⟨2, ![1, 2048]⟩ .f32} {st : FVec Ideal (PartShape w) .f32} {neg : EReal} {p : FVec Ideal (PartShape w) .bf16}
    (hw : lo + w = 2048) (hneg : neg = ⊥) (hT : n = T + lo) (hsc : ∀ (s : Fin 256) (t : Fin w), st (ix4 0 0 s t) = S (n + s.val) (T + (lo + t.val)))
    (hv : ∀ (d : Fin 80) (s : Fin 256), vx (ix2 d s) = V d.val (n + s.val))
    (hp : p = weights b1 b2 b3 (select (cmpi .sle (iota .tc (⟨2, ![256, w]⟩ : Shape) 32 [0] c2) (iota .tc (⟨2, ![256, w]⟩ : Shape) 32 [1] c3))
        (shapeCast (⟨2, ![256, w]⟩ : Shape) st c1) (broadcast (⟨2, ![256, w]⟩ : Shape) neg))
      (newMax k1 k2 (extractStridedSlice (⟨2, ![1, w]⟩ : Shape) ![0, lo] m c4)
        (select (cmpi .sle (iota .tc (⟨2, ![256, w]⟩ : Shape) 32 [0] c2) (iota .tc (⟨2, ![256, w]⟩ : Shape) 32 [1] c3))
        (shapeCast (⟨2, ![256, w]⟩ : Shape) st c1) (broadcast (⟨2, ![256, w]⟩ : Shape) neg))))
    (hS : State S V T n L a h m) :
    State S V T (n + 256) (accPiece a h lo w v L (extractStridedSlice (⟨2, ![1, w]⟩ : Shape) ![0, lo] m c4)
      (newMax k1 k2 (extractStridedSlice (⟨2, ![1, w]⟩ : Shape) ![0, lo] m c4)
        (select (cmpi .sle (iota .tc (⟨2, ![256, w]⟩ : Shape) 32 [0] c2) (iota .tc (⟨2, ![256, w]⟩ : Shape) 32 [1] c3))
        (shapeCast (⟨2, ![256, w]⟩ : Shape) st c1) (broadcast (⟨2, ![256, w]⟩ : Shape) neg))) vx p
      inb0 inb h0 hs hst inb0' inb' h0' hs' hst' h1 h2 h3 h4 h5 hR hR' :: L) a h
      (concatenate (⟨2, ![1, 2048]⟩ : Shape) 1 [⟨⟨2, ![1, lo]⟩, extractStridedSlice (⟨2, ![1, lo]⟩ : Shape) ![0, 0] m c6⟩, ⟨⟨2, ![1, w]⟩,
        newMax k1 k2 (extractStridedSlice (⟨2, ![1, w]⟩ : Shape) ![0, lo] m c4)
        (select (cmpi .sle (iota .tc (⟨2, ![256, w]⟩ : Shape) 32 [0] c2) (iota .tc (⟨2, ![256, w]⟩ : Shape) 32 [1] c3))
        (shapeCast (⟨2, ![256, w]⟩ : Shape) st c1) (broadcast (⟨2, ![256, w]⟩ : Shape) neg))⟩] c5) := by
  refine State.step hw (fun t ht => by omega) hS (fun t t' e => ?_) (diagScores_apply hneg hT hw hsc) (fun t' ht => ?_) (fun t t' e => ?_) hv hp
  · refine extractStridedSlice_apply _ _ _ _ _ fun k => ?_
    match k with
    | ⟨0, _⟩ => rfl
    | ⟨1, _⟩ => exact e
  · refine (concatenate_pair_apply_left (t := ⟨2, ![1, 2048]⟩) (s₁ := ⟨2, ![1, lo]⟩) (s₂ := ⟨2, ![1, w]⟩) _ _ _ _ _ rfl (ix2 0 ⟨t'.val, ht⟩) fun k => ?_).trans ?_
    · match k with
      | ⟨0, _⟩ => rfl
      | ⟨1, _⟩ => rfl
    · refine extractStridedSlice_apply _ _ _ _ _ fun k => ?_
      match k with
      | ⟨0, _⟩ => rfl
      | ⟨1, _⟩ => exact (Nat.zero_add _).symm
  · refine concatenate_pair_apply_right (t := ⟨2, ![1, 2048]⟩) (s₁ := ⟨2, ![1, lo]⟩) (s₂ := ⟨2, ![1, w]⟩) _ _ _ _ _ rfl rfl (ix2 0 t) (fun k hk => ?_) ?_
    · match k with
      | ⟨0, _⟩ => rfl
      | ⟨1, _⟩ => exact absurd rfl hk
    · show t.val + lo = t'.val
      omega

end Kinds

/-! ## Scores and values -/

/-- The score of key `s` and query `t`: the product of the key's row and the query's column. -/
def score (K Q : ℕ → ℕ → EReal) (s t : ℕ) : EReal := ∑ j : Fin 256, K s j.val * Q j.val t

section Data

variable {K Q V : ℕ → ℕ → EReal} {T n a h lo w : ℕ} {sig : RefSig} {κ : Kind} {sp : Space}

/-- Reading a slot that holds a block's scores. -/
theorem slot_scores {S : ℕ → ℕ → EReal} {v : View sig κ sp SlotShape .f32} {inb} {u : FVec Ideal (PartShape w) .f32} {L : List (Piece (Elt Ideal) SlotShape .f32)}
    (hL : SlotIs L a h lo u) (hu : ∀ (s : Fin 256) (t : Fin w), u (ix4 0 0 s t) = S (n + s.val) (T + (lo + t.val))) (s : Fin 256) (t : Fin w) :
    v.readCov L (Rect.unit (s := SlotShape) ![a, h, 0, lo] (PartShape w).size inb).toLoadRect (ix4 0 0 s t) = S (n + s.val) (T + (lo + t.val)) := by
  rw [hL.read]; exact hu s t

/-- The scores stored: a block's key rows, in two halves, by the queries' columns. -/
theorem scores_apply {v : View sig κ sp (TileShape 256) .bf16} {L : List (Piece (Elt Ideal) (TileShape 256) .bf16)}
    {kc xk : FVec Ideal ⟨3, ![1, 256, 128]⟩ .bf16} {inb0 inb h0 hs hst h1 h2 h3 h4 h5 h6}
    (hR : (⟨3, ![1, 256, w]⟩ : Shape).numel = (tileLoad 256 a h 0 lo 256 w inb0 inb h0 hs hst).shape.numel)
    (hkc : ∀ (s : Fin 256) (j : Fin 128), kc (ix3 0 s j) = K (n + s.val) j.val)
    (hxk : ∀ (s : Fin 256) (j : Fin 128), xk (ix3 0 s j) = K (n + s.val) (128 + j.val))
    (hq : TileIs L a h fun j t => Q j (T + t)) (s : Fin 256) (t : Fin w) :
    shapeCast (α := Ideal .f32) (PartShape w) (FloatOps.matmul (F := Ideal) (φ₁ := .bf16) (φ₂ := .bf16) (⟨[1], [0], [0], [1], [], [], h1⟩ : DotDims ⟨2, ![256, 256]⟩ ⟨2, ![256, w]⟩ ⟨2, ![256, w]⟩) none
      (concatenate (⟨2, ![256, 256]⟩ : Shape) 1 [⟨⟨2, ![256, 128]⟩, shapeCast (⟨2, ![256, 128]⟩ : Shape) kc h2⟩, ⟨⟨2, ![256, 128]⟩, shapeCast (⟨2, ![256, 128]⟩ : Shape) xk h3⟩] h4)
      (shapeCast (⟨2, ![256, w]⟩ : Shape) (fun i => v.readCov L (tileLoad 256 a h 0 lo 256 w inb0 inb h0 hs hst) (Shape.reshapeEquiv hR i)) h5)
      (constant (⟨2, ![256, w]⟩ : Shape) .f32 0x00000000#32)) h6 (ix4 0 0 s t) = score K Q (n + s.val) (T + (lo + t.val)) := by
  rw [cast_add2, mm_apply]
  show Ideal.ofBits .f32 0x00000000#32 + _ = _
  rw [Ideal.ofBits_zero_f32, zero_add]
  refine Finset.sum_congr rfl fun j _ => ?_
  rw [cast_drop1]
  refine congrArg₂ (· * ·) ?_ ?_
  · have hj := j.isLt
    by_cases hc : j.val < 128
    · refine (concatenate_pair_apply_left (t := ⟨2, ![256, 256]⟩) (s₁ := ⟨2, ![256, 128]⟩) (s₂ := ⟨2, ![256, 128]⟩) _ _ _ _ _ rfl (ix2 s ⟨j.val, hc⟩) fun k => ?_).trans ?_
      · match k with
        | ⟨0, _⟩ => rfl
        | ⟨1, _⟩ => rfl
      · rw [cast_drop1]; exact hkc _ _
    · refine (concatenate_pair_apply_right (t := ⟨2, ![256, 256]⟩) (s₁ := ⟨2, ![256, 128]⟩) (s₂ := ⟨2, ![256, 128]⟩) _ _ _ _ _ rfl rfl (ix2 s ⟨j.val - 128, by omega⟩) (fun k hk => ?_) ?_).trans ?_
      · match k with
        | ⟨0, _⟩ => rfl
        | ⟨1, _⟩ => exact absurd rfl hk
      · show j.val - 128 + 128 = j.val
        omega
      · rw [cast_drop1, hxk]
        show K (n + s.val) (128 + (j.val - 128)) = _
        rw [Nat.add_sub_of_le (by omega)]
  · refine (TileIs.read hq hR j t).trans ?_
    show Q (0 + j.val) (T + (lo + t.val)) = _
    rw [Nat.zero_add]

/-- Entry `d` of key `s`: its 64 values, then a one, then zeros. -/
def withOne (V : ℕ → ℕ → EReal) (d s : ℕ) : EReal := if d < 64 then V d s else if d = 64 then 1 else 0

/-- The values' rows of a head, with the row of ones below. -/
theorem values_apply {o : ℕ} {vt : FVec Ideal ⟨4, ![1, 1, 128, 256]⟩ .bf16} {ones : FVec Ideal ⟨2, ![16, 256]⟩ .bf16} {h1 h2 h3}
    (ho : o + 64 ≤ 128) (hvt : ∀ (d : Fin 128) (s : Fin 256), vt (ix4 0 0 d s) = V d.val (n + s.val))
    (hone : ∀ (r : Fin 16) (s : Fin 256), ones (ix2 r s) = if r.val = 0 then 1 else 0) (d : Fin 80) (s : Fin 256) :
    concatenate (⟨2, ![80, 256]⟩ : Shape) 0 [⟨⟨2, ![64, 256]⟩, extractStridedSlice (⟨2, ![64, 256]⟩ : Shape) ![o, 0] (shapeCast (⟨2, ![128, 256]⟩ : Shape) vt h1) h2⟩,
      ⟨⟨2, ![16, 256]⟩, ones⟩] h3 (ix2 d s) = withOne (fun d s => V (o + d) s) d.val (n + s.val) := by
  have hd := d.isLt
  unfold withOne
  by_cases hc : d.val < 64
  · rw [if_pos hc]
    refine (concatenate_pair_apply_left (t := ⟨2, ![80, 256]⟩) (s₁ := ⟨2, ![64, 256]⟩) (s₂ := ⟨2, ![16, 256]⟩) _ _ _ _ _ rfl (ix2 ⟨d.val, hc⟩ s) fun k => ?_).trans ?_
    · match k with
      | ⟨0, _⟩ => rfl
      | ⟨1, _⟩ => rfl
    · refine (extractStridedSlice_apply _ _ _ _ (ix2 ⟨o + d.val, by omega⟩ s) fun k => ?_).trans ?_
      · match k with
        | ⟨0, _⟩ => rfl
        | ⟨1, _⟩ => exact (Nat.zero_add _).symm
      · rw [cast_drop2]; exact hvt _ _
  · rw [if_neg hc]
    refine (concatenate_pair_apply_right (t := ⟨2, ![80, 256]⟩) (s₁ := ⟨2, ![64, 256]⟩) (s₂ := ⟨2, ![16, 256]⟩) _ _ _ _ _ rfl rfl (ix2 ⟨d.val - 64, by omega⟩ s) (fun k hk => ?_) ?_).trans ?_
    · match k with
      | ⟨0, _⟩ => exact absurd rfl hk
      | ⟨1, _⟩ => rfl
    · show d.val - 64 + 64 = d.val
      omega
    · rw [hone]
      show (if d.val - 64 = 0 then (1 : EReal) else 0) = _
      congr 1
      exact propext ⟨fun h => by omega, fun h => by omega⟩

end Data

end Cert.Attn

end
-- ==== Proof.Attn.Reads.lean ====
/-
  What the attention's body reads: the key rows, the value rows, the row of ones, and the two heads' query columns.

  A grid point has a pair of heads. Its keys are 128 columns of the two heads' keys and 128 columns of extra entries; its
  queries are the same number of rows, of which a head keeps its own (`OwnRow`), the others set to zero.
-/
module

public import proofs.«01_k».proof.Proof.Attn.Step
public import proofs.«01_k».proof.Proof.Gen.KernelIdeal.Value
public import Idealize.ShloMosaic.Lib.WholeRead

@[expose] public section

set_option maxRecDepth 16384

noncomputable section

namespace Cert.Attn

open Idealize.ShloMosaic Cert.KernelIdeal Cert.KernelIdeal.Gen

/-- Entry `j` of key row `s` in a block of rows. -/
def rows (x : Vec Ideal S1x4096x128 .bf16) (s j : ℕ) : EReal :=
  if h : s < 4096 ∧ j < 128 then x (ix3 0 ⟨s, h.1⟩ ⟨j, h.2⟩) else 0

/-- Entry `j` of column `t` in a block of columns. -/
def cols (x : Vec Ideal S1x128x4096 .bf16) (j t : ℕ) : EReal :=
  if h : j < 128 ∧ t < 4096 then x (ix3 0 ⟨j, h.1⟩ ⟨t, h.2⟩) else 0

/-- Entry `d` of the values of key `s`; the values come in 16 blocks of 256 keys. -/
def vals (x : Vec Ideal S1x16x128x256 .bf16) (d s : ℕ) : EReal :=
  if h : d < 128 ∧ s / 256 < 16 then x (ix4 0 ⟨s / 256, h.2⟩ ⟨d, h.1⟩ ⟨s % 256, Nat.mod_lt _ (by decide)⟩) else 0

/-- The key rows: the keys, then the extra entries. -/
def keyRow (x2 x3 : Vec Ideal S1x4096x128 .bf16) (s j : ℕ) : EReal :=
  if j < 128 then rows x2 s j else rows x3 s (j - 128)

/-- The query columns before a head keeps its own rows: the queries, then the extra entries. -/
def queryCol (x0 x1 : Vec Ideal S1x128x4096 .bf16) (j t : ℕ) : EReal :=
  if j < 128 then cols x0 j t else cols x1 (j - 128) t

/-- The rows head `h` of pair `p` keeps: its 64 entries and its six extra entries. -/
def OwnRow (p h j : ℕ) : Prop :=
  (64 * h ≤ j ∧ j < 64 * h + 64) ∨ (128 + 6 * (2 * p + h) ≤ j ∧ j < 128 + 6 * (2 * p + h) + 6)

instance (p h j : ℕ) : Decidable (OwnRow p h j) := by unfold OwnRow; infer_instance

/-- A head's query columns. -/
def headCol (p h : ℕ) (x0 x1 : Vec Ideal S1x128x4096 .bf16) (j t : ℕ) : EReal :=
  if OwnRow p h j then queryCol x0 x1 j t else 0

section Loads

variable {M : Memref sig .tc .vmem S1x4096x128 .bf16} {M' : Memref sig .tc .vmem S1x128x4096 .bf16} {M4 : Memref sig .tc .vmem S1x16x128x256 .bf16}

/-- A load of 256 rows reads them. -/
theorem rows_apply (hM : M.IsWhole) (x : Vec Ideal S1x4096x128 .bf16) {o : ℕ} {inb} (s : Fin 256) (j : Fin 128) :
    View.readAt (Elt Ideal) M.view (Rect.unit (s := S1x4096x128) ![0, o, 0] S1x256x128.size inb).toLoadRect (hM.unread x) (ix3 0 s j)
      = rows x (o + s.val) j.val := by
  have hi := inb 1
  change o + 256 ≤ 4096 at hi
  have hs := s.isLt
  rw [Memref.IsWhole.readAt_unread, rows, dif_pos ⟨by omega, j.isLt⟩]
  congr 1
  funext k
  apply Fin.ext
  match k with
  | ⟨0, _⟩ => rfl
  | ⟨1, _⟩ => show o + 1 * s.val = o + s.val; omega
  | ⟨2, _⟩ => show 0 + 1 * j.val = j.val; omega

/-- A load of 2048 columns reads them. -/
theorem cols_apply (hM : M'.IsWhole) (x : Vec Ideal S1x128x4096 .bf16) {o : ℕ} {inb} (j : Fin 128) (t : Fin 2048) :
    View.readAt (Elt Ideal) M'.view (Rect.unit (s := S1x128x4096) ![0, 0, o] S1x128x2048.size inb).toLoadRect (hM.unread x) (ix3 0 j t)
      = cols x j.val (o + t.val) := by
  have hi := inb 2
  change o + 2048 ≤ 4096 at hi
  have hs := t.isLt
  rw [Memref.IsWhole.readAt_unread, cols, dif_pos ⟨j.isLt, by omega⟩]
  congr 1
  funext k
  apply Fin.ext
  match k with
  | ⟨0, _⟩ => rfl
  | ⟨1, _⟩ => show 0 + 1 * j.val = j.val; omega
  | ⟨2, _⟩ => show o + 1 * t.val = o + t.val; omega

/-- A load of one block of values reads it. -/
theorem vals_apply (hM : M4.IsWhole) (x : Vec Ideal S1x16x128x256 .bf16) {b n : ℕ} {inb} (hn : n = 256 * b) (d : Fin 128) (s : Fin 256) :
    View.readAt (Elt Ideal) M4.view (Rect.unit (s := S1x16x128x256) ![0, b, 0, 0] S1x1x128x256.size inb).toLoadRect (hM.unread x) (ix4 0 0 d s)
      = vals x d.val (n + s.val) := by
  have hi := inb 1
  change b + 1 ≤ 16 at hi
  have hs := s.isLt
  rw [Memref.IsWhole.readAt_unread, vals, dif_pos ⟨d.isLt, by omega⟩]
  congr 1
  funext k
  apply Fin.ext
  match k with
  | ⟨0, _⟩ => rfl
  | ⟨1, _⟩ => show b + 1 * 0 = (n + s.val) / 256; omega
  | ⟨2, _⟩ => show 0 + 1 * d.val = d.val; omega
  | ⟨3, _⟩ => show 0 + 1 * s.val = (n + s.val) % 256; omega

/-- The key rows of a block, first half. -/
theorem key_lo (hM : M.IsWhole) (x2 x3 : Vec Ideal S1x4096x128 .bf16) {o : ℕ} {inb} (s : Fin 256) (j : Fin 128) :
    View.readAt (Elt Ideal) M.view (Rect.unit (s := S1x4096x128) ![0, o, 0] S1x256x128.size inb).toLoadRect (hM.unread x2) (ix3 0 s j)
      = keyRow x2 x3 (o + s.val) j.val :=
  (rows_apply hM x2 s j).trans (if_pos j.isLt).symm

/-- The key rows of a block, second half. -/
theorem key_hi (hM : M.IsWhole) (x2 x3 : Vec Ideal S1x4096x128 .bf16) {o : ℕ} {inb} (s : Fin 256) (j : Fin 128) :
    View.readAt (Elt Ideal) M.view (Rect.unit (s := S1x4096x128) ![0, o, 0] S1x256x128.size inb).toLoadRect (hM.unread x3) (ix3 0 s j)
      = keyRow x2 x3 (o + s.val) (128 + j.val) := by
  rw [rows_apply, keyRow, if_neg (by omega), Nat.add_sub_cancel_left]

end Loads

/-- The row of ones: one in row 0, zero below. -/
theorem ones_apply (r : Fin 16) (s : Fin 256) : k0_pay4 (F := Ideal) (ix2 r s) = if r.val = 0 then 1 else 0 := by
  pointwise [k0_pay4]
  have key : ∀ r : Fin 16, (BitVec.setWidth 32 (IntOp.cmpi .eq (BitVec.ofNat 32 r.val) 0#32)).toInt = if r.val = 0 then 1 else 0 := by decide
  show (((BitVec.setWidth 32 (IntOp.cmpi .eq (BitVec.ofNat 32 r.val) 0#32)).toInt : ℝ) : EReal) = _
  rw [key]
  split <;> simp

/-- The mask the first head of the pair keeps its rows by. -/
theorem own0 (i : grid0.Coords) (j : Fin 256) : (k0_pay2 i (ix2 j 0) = 1) ↔ OwnRow (i 1).val 0 j.val := by
  pointwise [k0_pay2]
  generalize (i 1) = p at *
  revert p j
  decide +kernel

/-- The mask the second head of the pair keeps its rows by. -/
theorem own1 (i : grid0.Coords) (j : Fin 256) : (k0_pay3 i (ix2 j 0) = 1) ↔ OwnRow (i 1).val 1 j.val := by
  pointwise [k0_pay3]
  generalize (i 1) = p at *
  revert p j
  decide +kernel

/-- The mask constant is −∞. -/
theorem mask_bot (b : BitVec (FTy.bits .f32)) : (Named.named κ "mask" b : Ideal .f32) = ⊥ := rfl

/-- A head's query columns as stored: the rows it keeps, zero elsewhere. -/
theorem query_apply {p h o : ℕ} {M0 M1 : Memref sig .tc .vmem S1x128x4096 .bf16} (h0 : M0.IsWhole) (h1 : M1.IsWhole) (x0 x1 : Vec Ideal S1x128x4096 .bf16)
    {inb0 inb1 c1 c2 c3 c4 c5 c6 c7} {m : IVec S256x1 1} (hm : ∀ j : Fin 256, (m (ix2 j 0) = 1) ↔ OwnRow p h j.val) (j : Fin 256) (t : Fin 2048) :
    shapeCast (α := Ideal .bf16) S1x1x256x2048 (shapeCast S1x256x2048 (select (broadcastTo S256x2048 (shapeCast S256x1 m c1) c2)
      (concatenate S256x2048 0 [⟨S128x2048, shapeCast S128x2048 (View.readAt (Elt Ideal) M0.view (Rect.unit (s := S1x128x4096) ![0, 0, o] S1x128x2048.size inb0).toLoadRect (h0.unread x0)) c3⟩,
        ⟨S128x2048, shapeCast S128x2048 (View.readAt (Elt Ideal) M1.view (Rect.unit (s := S1x128x4096) ![0, 0, o] S1x128x2048.size inb1).toLoadRect (h1.unread x1)) c4⟩] c5)
      (broadcast S256x2048 (Scalar.ofBits (F := Ideal) .bf16 0x0000#16))) c6) c7 (ix4 0 0 j t) = headCol p h x0 x1 j.val (o + t.val) := by
  have e1 : ∀ (v : S1x256x2048.Idx → EReal), shapeCast S1x1x256x2048 v c7 (ix4 0 0 j t) = v (ix3 0 j t) := fun v =>
    shapeCast_apply _ _ _ _ (by rw [Shape.rowMajor_val_four, Shape.rowMajor_val_three]; rfl)
  have e2 : broadcastTo S256x2048 (shapeCast S256x1 m c1) c2 (ix2 j t) = m (ix2 j 0) := by
    pointwise
  rw [e1, cast_add1]
  show Scalar.select (broadcastTo S256x2048 (shapeCast S256x1 m c1) c2 (ix2 j t)) _ _ = _
  rw [e2, headCol, Scalar.select]
  simp only [hm]
  refine if_congr Iff.rfl ?_ ?_
  · unfold queryCol
    by_cases hc : j.val < 128
    · rw [if_pos hc]
      refine (concatenate_pair_apply_left (t := S256x2048) (s₁ := S128x2048) (s₂ := S128x2048) _ _ _ _ _ rfl (ix2 ⟨j.val, hc⟩ t) fun k => ?_).trans ?_
      · match k with
        | ⟨0, _⟩ => rfl
        | ⟨1, _⟩ => rfl
      · exact (cast_drop1 _ _ _ _).trans (cols_apply h0 x0 _ _)
    · rw [if_neg hc]
      refine (concatenate_pair_apply_right (t := S256x2048) (s₁ := S128x2048) (s₂ := S128x2048) _ _ _ _ _ rfl rfl (ix2 ⟨j.val - 128, by have := j.isLt; omega⟩ t) (fun k hk => ?_) ?_).trans ?_
      · match k with
        | ⟨0, _⟩ => exact absurd rfl hk
        | ⟨1, _⟩ => rfl
      · show j.val - 128 + 128 = j.val
        omega
      · exact (cast_drop1 _ _ _ _).trans (cols_apply h1 x1 _ _)
  · show Ideal.ofBits .bf16 0x0000#16 = 0
    simp [Ideal.ofBits, Ideal.ieee]

end Cert.Attn
-- ==== Proof.Attn.Chain.lean ====
/-
  The body of the attention kernel: what each of its stores of the output holds.

  The key blocks follow each other as stores into the accumulators. `chains` walks them back, block by block, for the two
  query tiles and the two heads of a grid point, by the three kinds of block (`State.full`, `State.diag0`, `State.diag`);
  `body_apply` reads the output.
-/
module

public import proofs.«01_k».proof.Proof.Attn.Reads

@[expose] public section

set_option maxRecDepth 16384

noncomputable section

namespace Cert.Attn

open Idealize.ShloMosaic Cert.KernelIdeal Cert.KernelIdeal.Gen

/-- The accumulators start at zero. -/
theorem zeros_apply {c1} (x : S1x2x80x2048.Idx) :
    shapeCast (α := Ideal .f32) S1x2x80x2048 (broadcast S2x80x2048 (Scalar.ofBits (F := Ideal) .f32 0x00000000#32)) c1 x = 0 :=
  Ideal.ofBits_zero_f32

/-- The maxima start at −∞. -/
theorem start_apply {neg : Ideal .f32} (h : neg = ⊥) (x : S1x2048.Idx) : broadcast S1x2048 neg x = ⊥ := h

/-- The quotient the kernel stores for one tile: each head's 64 sums, over its sum of weights. -/
theorem tile_out {S0 S1 V0 V1 : ℕ → ℕ → EReal} {T n a : ℕ} {L} {m0 m1} (hS0 : State S0 V0 T n L a 0 m0) (hS1 : State S1 V1 T n L a 1 m1)
    {sg : RefSig} {κ' : Kind} {sp : Space} {v : View sg κ' sp (TileShape 80) .f32}
    {i1 i2 i3 i4 i5 i6 i7 i8 j1 j2 j3 j4 j5 j6 j7 j8 k1 k2 k3 k4 c1 c2 c3 c4 c5 c6 d2 d3} {d1 : Shape.Concatenates [S64x2048, S64x2048] S128x2048 0}
    (hR1 : (⟨3, ![1, 64, 2048]⟩ : Shape).numel = (tileLoad 80 a 0 0 0 64 2048 i1 i2 j1 j2 k1).shape.numel)
    (hR2 : (⟨3, ![1, 1, 2048]⟩ : Shape).numel = (tileLoad 80 a 0 64 0 1 2048 i3 i4 j3 j4 k2).shape.numel)
    (hR3 : (⟨3, ![1, 64, 2048]⟩ : Shape).numel = (tileLoad 80 a 1 0 0 64 2048 i5 i6 j5 j6 k3).shape.numel)
    (hR4 : (⟨3, ![1, 1, 2048]⟩ : Shape).numel = (tileLoad 80 a 1 64 0 1 2048 i7 i8 j7 j8 k4).shape.numel)
    (t : Fin 2048) (x : Fin 128) :
    shapeCast (α := Ideal .f32) S1x2048x128 (transpose S2048x128 [1, 0] (concatenate S128x2048 0
      [⟨S64x2048, divf (shapeCast S64x2048 (fun i => v.readCov L (tileLoad 80 a 0 0 0 64 2048 i1 i2 j1 j2 k1) (Shape.reshapeEquiv hR1 i)) c1)
          (broadcastTo S64x2048 (shapeCast S1x2048 (fun i => v.readCov L (tileLoad 80 a 0 64 0 1 2048 i3 i4 j3 j4 k2) (Shape.reshapeEquiv hR2 i)) c2) c3)⟩,
        ⟨S64x2048, divf (shapeCast S64x2048 (fun i => v.readCov L (tileLoad 80 a 1 0 0 64 2048 i5 i6 j5 j6 k3) (Shape.reshapeEquiv hR3 i)) c4)
          (broadcastTo S64x2048 (shapeCast S1x2048 (fun i => v.readCov L (tileLoad 80 a 1 64 0 1 2048 i7 i8 j7 j8 k4) (Shape.reshapeEquiv hR4 i)) c5) c6)⟩] d1) d2) d3 (ix3 0 t x)
      = if x.val < 64 then Ideal.div (runSum S0 V0 n x.val (T + t.val)) (runSum S0 V0 n 64 (T + t.val))
        else Ideal.div (runSum S1 V1 n (x.val - 64) (T + t.val)) (runSum S1 V1 n 64 (T + t.val)) := by
  have hx := x.isLt
  rw [cast_add1]
  refine (transpose_apply _ _ _ _ (ix2 x t) fun k => ?_).trans ?_
  · match k with
    | ⟨0, _⟩ => rfl
    | ⟨1, _⟩ => rfl
  by_cases hc : x.val < 64
  · rw [if_pos hc]
    refine (concatenate_pair_apply_left (t := S128x2048) (s₁ := S64x2048) (s₂ := S64x2048) _ _ _ _ _ rfl (ix2 ⟨x.val, hc⟩ t) fun k => ?_).trans ?_
    · match k with
      | ⟨0, _⟩ => rfl
      | ⟨1, _⟩ => rfl
    · show Ideal.div _ _ = _
      rw [bcast_row, cast_drop1, cast_drop1, TileIs.read hS0.acc, TileIs.read hS0.acc]
      simp
  · rw [if_neg hc]
    refine (concatenate_pair_apply_right (t := S128x2048) (s₁ := S64x2048) (s₂ := S64x2048) _ _ _ _ _ rfl rfl (ix2 ⟨x.val - 64, by omega⟩ t) (fun k hk => ?_) ?_).trans ?_
    · match k with
      | ⟨0, _⟩ => exact absurd rfl hk
      | ⟨1, _⟩ => rfl
    · show x.val - 64 + 64 = x.val
      omega
    · show Ideal.div _ _ = _
      rw [bcast_row, cast_drop1, cast_drop1, TileIs.read hS1.acc, TileIs.read hS1.acc]
      simp

/-- A head's output at entry `d`, query `t`: its weighted sum over all keys, over its sum of weights. -/
def headOut (p h : ℕ) (x0 x1 : Vec Ideal S1x128x4096 .bf16) (x2 x3 : Vec Ideal S1x4096x128 .bf16) (x4 : Vec Ideal S1x16x128x256 .bf16) (d t : ℕ) : EReal :=
  Ideal.div (runSum (score (keyRow x2 x3) (headCol p h x0 x1)) (withOne fun d s => vals x4 (64 * h + d) s) 4096 d t)
    (runSum (score (keyRow x2 x3) (headCol p h x0 x1)) (withOne fun d s => vals x4 (64 * h + d) s) 4096 64 t)

section Body

variable (c : Dev nD) (i : grid0.Coords) (arg2 : Memref sig .tc .vmem S1x128x4096 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128x256 .bf16) (harg6 : arg6.IsWhole) (arg7 : Memref sig .tc .vmem S1x4096x128 .f32) (harg7 : arg7.IsWhole) (arg8 : Memref sig .tc .vmem S2x2x256x2048 .bf16) (harg8 : arg8.IsWhole) (arg9 : Memref sig .tc .vmem S2x2x80x2048 .f32) (harg9 : arg9.IsWhole) (arg10 : Memref sig .tc .vmem S4x2x256x2048 .f32) (harg10 : arg10.IsWhole) (arg11 : Memref sig .tc .vmem S4x2x256x2048 .bf16) (harg11 : arg11.IsWhole)
  (x0 : Vec Ideal S1x128x4096 .bf16) (x1 : Vec Ideal S1x128x4096 .bf16) (x2 : Vec Ideal S1x4096x128 .bf16) (x3 : Vec Ideal S1x4096x128 .bf16) (x4 : Vec Ideal S1x16x128x256 .bf16)

attribute [local irreducible] shapeCast View.readCov broadcastTo concatenate extractStridedSlice broadcast select iota cmpi exp2 mulf addf subf maximumf

set_option maxHeartbeats 4000000 in
/-- What the stores leave in the accumulators of the two heads, once each tile's key blocks are done: the running sums
over the first 2048 keys for the first tile, over all 4096 for the second. -/
theorem chains :
    (∃ m, State (score (keyRow x2 x3) (headCol (i 1).val 0 x0 x1)) (withOne fun d s => vals x4 (0 + d) s) 0 2048
      (kernelRun0_A.sl.HS1_17 (F := Ideal) c i arg2 harg2 arg3 harg3 arg4 harg4 arg5 harg5 arg6 harg6 arg8 arg9 arg10 arg11 x0 x1 x2 x3 x4) 0 0 m) ∧
    (∃ m, State (score (keyRow x2 x3) (headCol (i 1).val 1 x0 x1)) (withOne fun d s => vals x4 (64 + d) s) 0 2048
      (kernelRun0_A.sl.HS1_17 (F := Ideal) c i arg2 harg2 arg3 harg3 arg4 harg4 arg5 harg5 arg6 harg6 arg8 arg9 arg10 arg11 x0 x1 x2 x3 x4) 0 1 m) ∧
    (∃ m, State (score (keyRow x2 x3) (headCol (i 1).val 0 x0 x1)) (withOne fun d s => vals x4 (0 + d) s) 2048 4096
      (kernelRun0_A.sl.HS1_50 (F := Ideal) c i arg2 harg2 arg3 harg3 arg4 harg4 arg5 harg5 arg6 harg6 arg8 arg9 arg10 arg11 x0 x1 x2 x3 x4) 1 0 m) ∧
    (∃ m, State (score (keyRow x2 x3) (headCol (i 1).val 1 x0 x1)) (withOne fun d s => vals x4 (64 + d) s) 2048 4096
      (kernelRun0_A.sl.HS1_50 (F := Ideal) c i arg2 harg2 arg3 harg3 arg4 harg4 arg5 harg5 arg6 harg6 arg8 arg9 arg10 arg11 x0 x1 x2 x3 x4) 1 1 m) := by
  refine ⟨?_, ?_, ?_, ?_⟩
  all_goals
    apply Exists.intro
    case h =>
      -- the tile's own blocks, last to first
      iterate 7
        try (apply State.skip; case hne => rfl)
        apply State.diag
        case hw => rfl
        case hneg => exact mask_bot _
        case hT => rfl
        case hv => exact values_apply (by decide) (vals_apply harg6 x4 rfl) ones_apply
        case hp =>
          apply SlotIs.read
          repeat' first
            | (apply SlotIs.skip; case hne => rfl)
            | exact SlotIs.here _ _ _
        case hsc =>
          apply slot_scores
          case hL => repeat' first
            | (apply SlotIs.skip; case hne => rfl)
            | exact SlotIs.here _ _ _
          case hu =>
            apply scores_apply
            case hkc => exact key_lo _ _ _
            case hxk => exact key_hi _ _ _
            try (case h4 => exact concatenates_S256x128_S256x128_S256x256_d1)
            case hq =>
              repeat' refine TileIs.other _ _ rfl ?_
              apply TileIs.head
              first
                | exact query_apply (c5 := concatenates_S128x2048_S128x2048_S256x2048_d0) harg2 harg3 x0 x1 (own0 i)
                | exact query_apply (c5 := concatenates_S128x2048_S128x2048_S256x2048_d0) harg2 harg3 x0 x1 (own1 i)
        try (case c4 => decide)
        try (case c5 => decide)
        try (case c6 => decide)
      try (apply State.skip; case hne => rfl)
      apply State.diag0
      case hneg => exact mask_bot _
      case hT => rfl
      case hv => exact values_apply (by decide) (vals_apply harg6 x4 rfl) ones_apply
      case hp =>
        apply SlotIs.read
        repeat' first
          | (apply SlotIs.skip; case hne => rfl)
          | exact SlotIs.here _ _ _
      case hsc =>
        apply slot_scores
        case hL => repeat' first
          | (apply SlotIs.skip; case hne => rfl)
          | exact SlotIs.here _ _ _
        case hu =>
          apply scores_apply
          case hkc => exact key_lo _ _ _
          case hxk => exact key_hi _ _ _
          try (case h4 => exact concatenates_S256x128_S256x128_S256x256_d1)
          case hq =>
            repeat' refine TileIs.other _ _ rfl ?_
            apply TileIs.head
            first
              | exact query_apply (c5 := concatenates_S128x2048_S128x2048_S256x2048_d0) harg2 harg3 x0 x1 (own0 i)
              | exact query_apply (c5 := concatenates_S128x2048_S128x2048_S256x2048_d0) harg2 harg3 x0 x1 (own1 i)
      try (apply State.skip; case hne => rfl)
      -- the blocks before it, for the second tile
      first
        | (apply State.start
           case hv => exact zeros_apply
           case hm => exact start_apply (mask_bot _)
           case hh => decide)
        | (iterate 8
             apply State.full
             case hT => decide
             case hv => exact values_apply (by decide) (vals_apply harg6 x4 rfl) ones_apply
             case hp =>
               apply SlotIs.read
               repeat' first
                 | (apply SlotIs.skip; case hne => rfl)
                 | exact SlotIs.here _ _ _
             case hsc =>
               apply slot_scores
               case hL => repeat' first
                 | (apply SlotIs.skip; case hne => rfl)
                 | exact SlotIs.here _ _ _
               case hu =>
                 apply scores_apply
                 case hkc => exact key_lo _ _ _
                 case hxk => exact key_hi _ _ _
                 try (case h4 => exact concatenates_S256x128_S256x128_S256x256_d1)
                 case hq =>
                   repeat' refine TileIs.other _ _ rfl ?_
                   apply TileIs.head
                   first
                     | exact query_apply (c5 := concatenates_S128x2048_S128x2048_S256x2048_d0) harg2 harg3 x0 x1 (own0 i)
                     | exact query_apply (c5 := concatenates_S128x2048_S128x2048_S256x2048_d0) harg2 harg3 x0 x1 (own1 i)
             try (apply State.skip; case hne => rfl)
           apply State.start
           case hv => exact zeros_apply
           case hm => exact start_apply (mask_bot _)
           case hh => decide)

end Body

section Out

variable (p : ℕ) (x0 x1 : Vec Ideal S1x128x4096 .bf16) (x2 x3 : Vec Ideal S1x4096x128 .bf16) (x4 : Vec Ideal S1x16x128x256 .bf16)

/-- The two heads' quotients, by the entry of the pair's 128. -/
theorem headOut_pair {x : ℕ} (hx : x < 128) (t : ℕ) :
    (if x < 64 then Ideal.div (runSum (score (keyRow x2 x3) (headCol p 0 x0 x1)) (withOne fun d s => vals x4 (0 + d) s) 4096 x t)
        (runSum (score (keyRow x2 x3) (headCol p 0 x0 x1)) (withOne fun d s => vals x4 (0 + d) s) 4096 64 t)
      else Ideal.div (runSum (score (keyRow x2 x3) (headCol p 1 x0 x1)) (withOne fun d s => vals x4 (64 + d) s) 4096 (x - 64) t)
        (runSum (score (keyRow x2 x3) (headCol p 1 x0 x1)) (withOne fun d s => vals x4 (64 + d) s) 4096 64 t))
      = headOut p (x / 64) x0 x1 x2 x3 x4 (x % 64) t := by
  by_cases hc : x < 64
  · rw [if_pos hc, show x / 64 = 0 by omega, show x % 64 = x by omega]; rfl
  · rw [if_neg hc, show x / 64 = 1 by omega, show x % 64 = x - 64 by omega]; rfl

end Out

/-- What a grid point stores: entry `x` of query `t` is entry `x % 64` of the output of head `x / 64` of the pair. -/
theorem body_apply (c : Dev nD) (i : grid0.Coords) (arg2 : Memref sig .tc .vmem S1x128x4096 .bf16) (harg2 : arg2.IsWhole) (arg3 : Memref sig .tc .vmem S1x128x4096 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x16x128x256 .bf16) (harg6 : arg6.IsWhole) (arg7 : Memref sig .tc .vmem S1x4096x128 .f32) (harg7 : arg7.IsWhole) (arg8 : Memref sig .tc .vmem S2x2x256x2048 .bf16) (harg8 : arg8.IsWhole) (arg9 : Memref sig .tc .vmem S2x2x80x2048 .f32) (harg9 : arg9.IsWhole) (arg10 : Memref sig .tc .vmem S4x2x256x2048 .f32) (harg10 : arg10.IsWhole) (arg11 : Memref sig .tc .vmem S4x2x256x2048 .bf16) (harg11 : arg11.IsWhole)
    (x0 : Vec Ideal S1x128x4096 .bf16) (x1 : Vec Ideal S1x128x4096 .bf16) (x2 : Vec Ideal S1x4096x128 .bf16) (x3 : Vec Ideal S1x4096x128 .bf16) (x4 : Vec Ideal S1x16x128x256 .bf16) (y : S1x4096x128.Idx) :
    out0_A_5 (F := Ideal) c i arg2 harg2 arg3 harg3 arg4 harg4 arg5 harg5 arg6 harg6 arg7 harg7 arg8 harg8 arg9 harg9 arg10 harg10 arg11 harg11 x0 x1 x2 x3 x4 y
      = headOut (i 1).val ((y 2).val / 64) x0 x1 x2 x3 x4 ((y 2).val % 64) (y 1).val := by
  obtain ⟨⟨m00, h00⟩, ⟨m01, h01⟩, ⟨m10, h10⟩, ⟨m11, h11⟩⟩ :=
    chains c i arg2 harg2 arg3 harg3 arg4 harg4 arg5 harg5 arg6 harg6 arg8 arg9 arg10 arg11 x0 x1 x2 x3 x4
  have hx : ∀ x : S1x2048x128.Idx, x = ix3 0 (x 1) (x 2) := fun x => by
    funext k
    match k with
    | ⟨0, _⟩ => exact Subsingleton.elim (α := Fin 1) _ _
    | ⟨1, _⟩ => rfl
    | ⟨2, _⟩ => rfl
  refine View.read_writes_apply_of_pieces (Val := Elt Ideal) (v := VO0_5) (f := VO0_5.junk)
    (fun y => (headOut (i 1).val ((y 2).val / 64) x0 x1 x2 x3 x4 ((y 2).val % 64) (y 1).val : EReal)) _ ?_ y
    (cover0_A_5 c i arg2 harg2 arg3 harg3 arg4 harg4 arg5 harg5 arg6 harg6 arg7 harg7 arg8 harg8 arg9 harg9 arg10 harg10 arg11 harg11 x0 x1 x2 x3 x4 y)
  refine List.forall_mem_cons.mpr ⟨fun x => ?_, List.forall_mem_cons.mpr ⟨fun x => ?_, fun _ h => absurd h List.not_mem_nil⟩⟩
  · refine (congrArg _ (hx x)).trans ((tile_out h10 h11 (d1 := concatenates_S64x2048_S64x2048_S128x2048_d0) _ _ _ _ (x 1) (x 2)).trans ((headOut_pair _ x0 x1 x2 x3 x4 (x 2).isLt _).trans ?_))
    show headOut _ ((x 2).val / 64) _ _ _ _ _ ((x 2).val % 64) (2048 + (x 1).val) = headOut _ ((0 + 1 * (x 2).val) / 64) _ _ _ _ _ ((0 + 1 * (x 2).val) % 64) (2048 + 1 * (x 1).val)
    simp only [Nat.zero_add, Nat.one_mul]
  · refine (congrArg _ (hx x)).trans ((tile_out h00 h01 (d1 := concatenates_S64x2048_S64x2048_S128x2048_d0) _ _ _ _ (x 1) (x 2)).trans ?_)
    have ht : 0 + (x 1).val < 2048 := by have := (x 1).isLt; change (x 1).val < 2048 at this; omega
    simp only [← runSum_skip (n := 2048) (k := 2048) _ _ ht]
    refine (headOut_pair _ x0 x1 x2 x3 x4 (x 2).isLt _).trans ?_
    show headOut _ ((x 2).val / 64) _ _ _ _ _ ((x 2).val % 64) (0 + (x 1).val) = headOut _ ((0 + 1 * (x 2).val) / 64) _ _ _ _ _ ((0 + 1 * (x 2).val) % 64) (0 + 1 * (x 1).val)
    simp only [Nat.zero_add, Nat.one_mul]

end Cert.Attn
-- ==== Proof.Attn.Host.lean ====
/-
  The arrays the attention's call is given, at an index: what the host code makes of the four arguments.

  The host scales the queries, takes the running sum of the log forget gates, multiplies both by `1 / log 2`, and splits the
  running sum into three parts; on extended reals a change of format is the identity, so a real number's first part is the
  number and the other two are zero.
-/
module

public import proofs.«01_k».proof.Proof.Gen.KernelIdeal.Value
public import Idealize.ShloMosaic.Lib.StableHlo.ReadAt
public import Idealize.ShloMosaic.Lib.ValueIdx
public import Idealize.ShloMosaic.PureOps.Ideal.Laws

@[expose] public section

set_option maxRecDepth 16384

noncomputable section

namespace Cert.Attn

open Idealize.ShloMosaic Idealize.ShloMosaic.TcCoe Idealize.SL.Sem Cert.KernelIdeal Cert.KernelIdeal.Gen

/-- The running sum of the log forget gates over the sequence. -/
def cum (x : Vec Ideal S8x4096x8 .f32) : Vec Ideal S8x4096x8 .f32 :=
  Host.reduceWindowAdd (F := Ideal) (φ := .f32) ![1, 4096, 1] ![1, 1, 1] ![0, 4095, 0] ![0, 0, 0] x (broadcastInDim S_ ![] bcast_S_S_ (constant (F := Ideal) S_ .f32 0#32))
    reduceWindows_S8x4096x8_S8x4096x8_w1s1p0_0_w4096s1p4095_0_w1s1p0_0 h_S_

/-- `1 / log 2`, the factor from a natural exponent to one of base two. -/
def log2e : ℝ := 1 / Real.log 2

theorem log2e_eq : Ideal.div (Ideal.ofBits .f32 0x3F800000#32) (Ideal.log (Ideal.ofBits .f32 0x40000000#32)) = (log2e : EReal) := by
  have h1 : Ideal.ofBits .f32 0x3F800000#32 = ((1 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  have h3 : Ideal.log ((2 : ℝ) : EReal) = ((Real.log 2 : ℝ) : EReal) := by
    show (if (2 : ℝ) ≤ 0 then (⊥ : EReal) else _) = _
    rw [if_neg (by norm_num)]
  rw [h1, h2, h3, Ideal.div_coe (Real.log_pos (by norm_num)).ne', log2e, EReal.coe_one, one_mul]

theorem eighth_eq : Ideal.ofBits .f32 0x3E000000#32 = ((1 / 8 : ℝ) : EReal) := by
  simp [Ideal.ofBits, Ideal.ieee]
  rw [← EReal.coe_mul]; norm_num

theorem one_bf16 : Ideal.ofBits .bf16 0x3F80#16 = 1 := by
  simp [Ideal.ofBits, Ideal.ieee]; rw [← EReal.coe_mul]; norm_num

/-- A fold that stays among the real numbers at every step ends there. -/
theorem foldl_real {α : Type} (f : EReal → α → EReal) (hf : ∀ (a : ℝ) (n : α), ∃ r : ℝ, f a n = (r : EReal)) (l : List α) (a : ℝ) :
    ∃ r : ℝ, l.foldl f a = (r : EReal) := by
  induction l generalizing a with
  | nil => exact ⟨a, rfl⟩
  | cons n l ih =>
    obtain ⟨r, hr⟩ := hf a n
    rw [List.foldl_cons, hr]
    exact ih r

/-- A sum of real numbers by a window is a real number. -/
theorem cum_real (x : Vec Ideal S8x4096x8 .f32) (hx : ∀ i, ∃ r : ℝ, x i = (r : EReal)) (i : S8x4096x8.Idx) : ∃ r : ℝ, cum x i = (r : EReal) := by
  have hz : (broadcastInDim S_ ![] bcast_S_S_ (constant (F := Ideal) S_ FTy.f32 0#32)) (Shape.Idx.first h_S_) = ((0 : ℝ) : EReal) := by
    pointwise
    simp [Ideal.ofBits, Ideal.ieee]
  unfold cum Host.reduceWindowAdd
  rw [hz]
  show ∃ r : ℝ, List.foldl _ _ _ = (r : EReal)
  generalize List.finRange _ = l
  dsimp only
  refine foldl_real _ (fun a n => ?_) l 0
  beta_reduce
  split_ifs with hin
  · obtain ⟨r, hr⟩ := hx (fun a => ⟨_, (hin a).2⟩)
    exact ⟨a + r, by rw [hr, EReal.coe_add]⟩
  · exact ⟨a + 0, (EReal.coe_add a 0).symm⟩

/-- The host's negation on extended reals. -/
theorem hostNegf_eq {φ : FTy} (x : Ideal φ) : FloatOps.hostNegf (F := Ideal) x = (-(x : EReal) : EReal) := rfl

/-- One of six side by side, the first apart from the next two and from the last three. -/
theorem pick_q {α : Type} (n : ℕ) (h : n < 6) (a z o : α) :
    (if _ : n < 1 then a else if _ : n - 1 < 1 then z else if _ : n - 1 - 1 < 1 then z else if _ : n - 1 - 1 - 1 < 1 then o
      else if _ : n - 1 - 1 - 1 - 1 < 1 then o else o) = if n = 0 then a else if n < 3 then z else o := by
  split_ifs <;> first | rfl | omega

/-- One of six side by side, the first three apart from the fourth and from the last two. -/
theorem pick_k {α : Type} (n : ℕ) (h : n < 6) (o a z : α) :
    (if _ : n < 1 then o else if _ : n - 1 < 1 then o else if _ : n - 1 - 1 < 1 then o else if _ : n - 1 - 1 - 1 < 1 then a
      else if _ : n - 1 - 1 - 1 - 1 < 1 then z else z) = if n < 3 then o else if n = 3 then a else z := by
  split_ifs <;> first | rfl | omega

section Entry

variable (m : (ℓ : Loc nD τ sig) → Buf (Elt Ideal) ℓ) (c : Dev nD)

/-- The arguments as launched. -/
abbrev argQ : Vec Ideal S8x4096x8x64 .f32 := m ((c : Thread nD τ).loc main_arg0)
abbrev argK : Vec Ideal S8x4096x8x64 .f32 := m ((c : Thread nD τ).loc main_arg1)
abbrev argV : Vec Ideal S8x4096x8x64 .f32 := m ((c : Thread nD τ).loc main_arg2)
abbrev argF : Vec Ideal S8x4096x8 .f32 := m ((c : Thread nD τ).loc main_arg3)

/-- The queries' columns: head by head, each query scaled. -/
theorem entry_q (b : Fin 8) (j : Fin 512) (t : Fin 4096) :
    (V m c main_v40 : Vec Ideal S8x512x4096 .bf16) (ix3 b j t)
      = argQ m c (ix4 b t ⟨j.val / 64, by omega⟩ ⟨j.val % 64, by omega⟩) * (((1 / 8 : ℝ) : EReal) * (log2e : EReal)) := by
  unfold V
  after_reads_at
  simp only [Ideal.truncf_def, Ideal.mulf_def, Ideal.hostDivf_def, Ideal.hostUnary_log_def, Ideal.ofBits_def, log2e_eq, eighth_eq]

/-- The keys' rows. -/
theorem entry_k (b : Fin 8) (s : Fin 4096) (j : Fin 512) :
    (V m c main_v42 : Vec Ideal S8x4096x512 .bf16) (ix3 b s j) = argK m c (ix4 b s ⟨j.val / 64, by omega⟩ ⟨j.val % 64, by omega⟩) := by
  unfold V
  after_reads_at
  rfl

/-- The values, 256 keys a block. -/
theorem entry_v (b : Fin 8) (n : Fin 16) (j : Fin 512) (s : Fin 256) :
    (V m c main_v45 : Vec Ideal S8x16x512x256 .bf16) (ix4 b n j s)
      = argV m c (ix4 b ⟨n.val * 256 + s.val, by omega⟩ ⟨j.val / 64, by omega⟩ ⟨j.val % 64, by omega⟩) := by
  unfold V
  after_reads_at
  rfl

variable {r : S8x4096x8.Idx → ℝ} (hr : ∀ i, cum (argF m c) i = (r i : EReal))
include hr

/-- The queries' extra rows, six a head: the running sum, two zeros, three ones. -/
theorem entry_xq (b : Fin 8) (j : Fin 128) (t : Fin 4096) (h : j.val < 48) :
    (V m c main_v22 : Vec Ideal S8x128x4096 .bf16) (ix3 b j t)
      = if j.val % 6 = 0 then ((r (ix3 b t ⟨j.val / 6, by omega⟩) * log2e : ℝ) : EReal) else if j.val % 6 < 3 then 0 else 1 := by
  have hr' : ∀ i, Host.reduceWindowAdd (F := Ideal) (φ := .f32) ![1, 4096, 1] ![1, 1, 1] ![0, 4095, 0] ![0, 0, 0] (m (c, Proc.tc.devRef main_arg3)) (broadcastInDim S_ ![] bcast_S_S_ (constant (F := Ideal) S_ .f32 0#32))
    reduceWindows_S8x4096x8_S8x4096x8_w1s1p0_0_w4096s1p4095_0_w1s1p0_0 h_S_ i = (r i : EReal) := hr
  unfold V
  after_reads_at
  after_reads_at
  simp only [Ideal.truncf_def, Ideal.extf_def, Ideal.mulf_def, Ideal.subf_def, Ideal.hostDivf_def, Ideal.hostUnary_log_def, Ideal.ofBits_def, log2e_eq, one_bf16, hr']
  simp only [← EReal.coe_mul, ← EReal.coe_sub, sub_self, EReal.coe_zero, hostNegf_eq, ← EReal.coe_neg, sub_zero, neg_zero]
  rw [dif_pos h]
  exact pick_q (α := EReal) (j.val % 6) (Nat.mod_lt _ (by decide)) ((r (ix3 b t ⟨j.val / 6, by omega⟩) * log2e : ℝ) : EReal) 0 1

/-- The keys' extra columns, six a head: three ones, the running sum negated, two zeros. -/
theorem entry_xk (b : Fin 8) (s : Fin 4096) (j : Fin 128) (h : j.val < 48) :
    (V m c main_v34 : Vec Ideal S8x4096x128 .bf16) (ix3 b s j)
      = if j.val % 6 < 3 then 1 else if j.val % 6 = 3 then ((-(r (ix3 b s ⟨j.val / 6, by omega⟩) * log2e) : ℝ) : EReal) else 0 := by
  have hr' : ∀ i, Host.reduceWindowAdd (F := Ideal) (φ := .f32) ![1, 4096, 1] ![1, 1, 1] ![0, 4095, 0] ![0, 0, 0] (m (c, Proc.tc.devRef main_arg3)) (broadcastInDim S_ ![] bcast_S_S_ (constant (F := Ideal) S_ .f32 0#32))
    reduceWindows_S8x4096x8_S8x4096x8_w1s1p0_0_w4096s1p4095_0_w1s1p0_0 h_S_ i = (r i : EReal) := hr
  unfold V
  after_reads_at
  after_reads_at
  simp only [Ideal.truncf_def, Ideal.extf_def, Ideal.mulf_def, Ideal.subf_def, Ideal.hostDivf_def, Ideal.hostUnary_log_def, Ideal.ofBits_def, log2e_eq, one_bf16, hr']
  simp only [← EReal.coe_mul, ← EReal.coe_sub, sub_self, EReal.coe_zero, hostNegf_eq, ← EReal.coe_neg, sub_zero, neg_zero]
  rw [dif_pos h]
  exact pick_k (α := EReal) (j.val % 6) (Nat.mod_lt _ (by decide)) 1 ((-(r (ix3 b s ⟨j.val / 6, by omega⟩) * log2e) : ℝ) : EReal) 0

end Entry

end Cert.Attn

end
-- ==== Proof.Attn.Softmax.lean ====
/-
  The softmax the running sums add up to, against the softmax of the formula.

  The running sums take powers of two relative to one maximum, the formula takes natural exponentials relative to another.
  Both are the same weights up to a factor, which the division by the sum of the weights removes (`softmax_eq`). The values
  may be any extended reals.
-/
module

public import proofs.«01_k».proof.Proof.Attn.Math
public import proofs.«01_k».proof.Proof.Attn.Host

@[expose] public section

noncomputable section

namespace Cert.Attn

open Idealize.ShloMosaic Finset

/-- `2 ^ (log2e * x)` is `e ^ x`. -/
theorem two_rpow_log2e (x : ℝ) : (2 : ℝ) ^ (log2e * x) = Real.exp x := by
  rw [Real.rpow_def_of_pos (by norm_num), log2e]
  congr 1
  field_simp

/-- The largest of some scores, those up to the query real numbers and there being at least one, is a real number. -/
theorem runMax_real (S : ℕ → ℕ → EReal) {n t : ℕ} (hn : 0 < n) (hS : ∀ s, ∃ x : ℝ, S s t = (x : EReal)) : ∃ M : ℝ, runMax S n t = (M : EReal) := by
  have h1 : runMax S n t ≠ ⊥ := by
    obtain ⟨x, hx⟩ := hS 0
    have h := masked_le_runMax S (t := t) hn
    rw [masked, if_pos (Nat.zero_le t), hx] at h
    intro h0
    rw [h0] at h
    exact EReal.coe_ne_bot x (le_bot_iff.mp h)
  have h2 : runMax S n t ≠ ⊤ := by
    refine ne_of_lt ((Finset.sup_lt_iff (by simp)).mpr fun s _ => ?_)
    unfold masked
    split_ifs
    · obtain ⟨x, hx⟩ := hS s
      rw [hx]; exact EReal.coe_lt_top x
    · simp
  exact ⟨_, (EReal.coe_toReal h2 h1).symm⟩

/-- A weight of the running sums, as a real number. -/
theorem exp2_weight (s t : ℕ) (x M : ℝ) :
    Ideal.exp2 ((if s ≤ t then ((log2e * x : ℝ) : EReal) else ⊥) - (M : EReal)) = ((if s ≤ t then Real.exp x * (2 : ℝ) ^ (-M) else 0 : ℝ) : EReal) := by
  split_ifs
  · rw [← EReal.coe_sub, Ideal.exp2_coe]
    congr 1
    show (2 : ℝ) ^ (log2e * x - M) = _
    rw [sub_eq_add_neg, Real.rpow_add (by norm_num), two_rpow_log2e]
  · rw [EReal.bot_sub, Ideal.exp2_bot]; rfl

/-- A weight of the formula, as a real number. -/
theorem exp_weight (s t : ℕ) (x M : ℝ) :
    Ideal.exp ((if s ≤ t then (x : EReal) else ⊥) - (M : EReal)) = ((if s ≤ t then Real.exp x * Real.exp (-M) else 0 : ℝ) : EReal) := by
  split_ifs
  · rw [← EReal.coe_sub]
    show ((Real.exp (x - M) : ℝ) : EReal) = _
    rw [sub_eq_add_neg, Real.exp_add]
  · rw [EReal.bot_sub]; rfl

/-- A finite sum of real numbers among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The weighted sum over the sum of the weights, powers of two relative to `M`, is the formula's softmax of the scores
    times the values. -/
theorem softmax_eq {t n : ℕ} (ht : t < n) (X : ℕ → ℝ) (V : ℕ → EReal) (M M' : ℝ) :
    Ideal.div (∑ s ∈ range n, Ideal.exp2 ((if s ≤ t then ((log2e * X s : ℝ) : EReal) else ⊥) - (M : EReal)) * V s)
        (∑ s ∈ range n, Ideal.exp2 ((if s ≤ t then ((log2e * X s : ℝ) : EReal) else ⊥) - (M : EReal)) * 1)
      = ∑ s ∈ range n, V s * Ideal.div (Ideal.exp ((if s ≤ t then (X s : EReal) else ⊥) - (M' : EReal)))
          (0 + ∑ s ∈ range n, Ideal.exp ((if s ≤ t then (X s : EReal) else ⊥) - (M' : EReal))) := by
  have hk : (0 : ℝ) < (2 : ℝ) ^ (-M) := Real.rpow_pos_of_pos (by norm_num) _
  have hk' : (0 : ℝ) < Real.exp (-M') := Real.exp_pos _
  have hD : 0 < ∑ s ∈ range n, (if s ≤ t then Real.exp (X s) else 0 : ℝ) := by
    refine Finset.sum_pos' (fun s _ => by split_ifs <;> positivity) ⟨t, Finset.mem_range.mpr ht, ?_⟩
    rw [if_pos le_rfl]; positivity
  have e1 : ∀ s, (if s ≤ t then Real.exp (X s) * (2 : ℝ) ^ (-M) else 0 : ℝ) = (if s ≤ t then Real.exp (X s) else 0 : ℝ) * (2 : ℝ) ^ (-M) :=
    fun s => by split_ifs <;> simp
  have e2 : ∀ s, (if s ≤ t then Real.exp (X s) * Real.exp (-M') else 0 : ℝ) = (if s ≤ t then Real.exp (X s) else 0 : ℝ) * Real.exp (-M') :=
    fun s => by split_ifs <;> simp
  simp only [exp2_weight, exp_weight, mul_one, zero_add, coe_sum, e1, e2, ← Finset.sum_mul]
  generalize hw : (fun s => (if s ≤ t then Real.exp (X s) else 0 : ℝ)) = w at *
  have hw' : ∀ s, (if s ≤ t then Real.exp (X s) else 0 : ℝ) = w s := fun s => congrFun hw s
  simp only [hw'] at hD ⊢
  generalize (∑ s ∈ range n, w s) = D at hD ⊢
  rw [Ideal.div_coe (by positivity), mul_comm, mul_sum _ _ (by exact_mod_cast (by positivity : (0 : ℝ) ≤ 1 / (D * 2 ^ (-M)))) (EReal.coe_ne_top _)]
  refine Finset.sum_congr rfl fun s _ => ?_
  rw [Ideal.div_coe (by positivity), ← mul_assoc, ← EReal.coe_mul, mul_comm, ← EReal.coe_mul]
  congr 2
  field_simp

end Cert.Attn

end
-- ==== Proof.Attn.Reference.lean ====
/-
  The reference at an index: a softmax over the keys up to the query, of the scaled products plus the difference of the running
  sums, times the values.
-/
module

public import proofs.«01_k».proof.Proof.Gen.ReferenceIdeal.Read
public import proofs.«01_k».proof.Proof.Attn.Host
public import Idealize.ShloMosaic.Lib.StableHlo.ReadAt
public import Idealize.ShloMosaic.Lib.ValueIdx
public import Idealize.ShloMosaic.Lib.WordCmp
public import Idealize.ShloMosaic.PureOps.Ideal.Laws

@[expose] public section

set_option maxRecDepth 16384

noncomputable section

namespace Cert.Attn

open Idealize.ShloMosaic Cert.ReferenceIdeal Cert.ReferenceIdeal.Gen Cert.ReferenceIdeal.Read

variable (x0 x1 x2 : Vec Ideal S8x4096x8x64 .f32) (x3 : Vec Ideal S8x4096x8 .f32)

/-- The score of key `s` for query `t`, where the key does not come after the query. -/
def refScore (b h : Fin 8) (t s : Fin 4096) : EReal :=
  if s.val ≤ t.val then
    (∑ k : Fin 64, x0 (ix4 b t h k) * x1 (ix4 b s h k)) * ((1 / 8 : ℝ) : EReal) + cum x3 (ix3 b t h) - cum x3 (ix3 b s h)
  else ⊥

theorem negInf_eq : Ideal.ofBits .f32 0xFF800000#32 = ⊥ := by simp [Ideal.ofBits, Ideal.ieee]

theorem zero_eq : Ideal.ofBits .f32 0x00000000#32 = 0 := by simp [Ideal.ofBits, Ideal.ieee]

theorem ref_score_apply (b h : Fin 8) (t s : Fin 4096) : val_main_v18 (F := Ideal) x0 x1 x3 (ix4 b h t s) = refScore x0 x1 x3 b h t s := by
  have hdot : val_main_v2 (F := Ideal) x0 x1 (ix4 b h t s) = ∑ k : Fin 64, x0 (ix4 b t h k) * x1 (ix4 b s h k) := by
    refine (val_main_v2_apply x0 x1 (ix4 b h t s)).trans (Finset.sum_congr rfl fun k _ => ?_)
    congr 2 <;> · funext a; match a with | ⟨0, _⟩ => rfl | ⟨1, _⟩ => rfl | ⟨2, _⟩ => rfl | ⟨3, _⟩ => rfl
  have hc : ∀ i, val_main_v0 (F := Ideal) x3 i = cum x3 i := fun i => rfl
  have e5 : idx_main_v1 (idx_main_v5 (idx_main_v6 (ix4 b h t s))) = ix3 b t h := by
    funext a; match a with | ⟨0, _⟩ => rfl | ⟨1, _⟩ => rfl | ⟨2, _⟩ => rfl
  have e8 : idx_main_v1 (idx_main_v8 (idx_main_v9 (ix4 b h t s))) = ix3 b s h := by
    funext a; match a with | ⟨0, _⟩ => rfl | ⟨1, _⟩ => rfl | ⟨2, _⟩ => rfl
  have hm : val_main_call1_v1 (F := Ideal) (ix4 b h t s) = BitVec.ofBool (decide (s.val ≤ t.val)) := by
    rw [val_main_call1_v1_apply, val_main_v17_apply, val_main_v15_apply, val_main_v16_apply, val_main_v12_apply, val_main_v14_apply,
      val_main_v11_apply, val_main_v13_apply]
    exact WordCmp.cmpi_sge_ofNat (w := 32) (a := t.val) (b := s.val) (by have := t.isLt; omega) (by have := s.isLt; omega)
  rw [val_main_v18_apply, hm, val_main_v10_apply, val_main_v7_apply, val_main_v4_apply, val_main_v3_apply, val_main_v6_apply,
    val_main_v5_apply, val_main_v1_apply, e5, val_main_v9_apply, val_main_v8_apply, val_main_v1_apply, e8, hdot, hc, hc,
    val_main_call1_v2_apply, val_main_call1_v0_apply]
  simp only [Ideal.subf_def, Ideal.addf_def, Ideal.mulf_def, val_main_cst_apply, val_main_cst_0_apply, Ideal.ofBits_def, eighth_eq, negInf_eq]
  unfold refScore Scalar.select
  by_cases hst : s.val ≤ t.val <;> simp [hst]

/-- The largest score of a query, as the reference takes it: the fold of `max` over the keys. -/
def refMax (b h : Fin 8) (t : Fin 4096) : EReal :=
  max ⊥ ((Finset.univ : Finset (Fin 4096)).fold max ⊥ fun s => refScore x0 x1 x3 b h t s)

/-- A `max` over the last axis is the fold of `max` over the keys. -/
theorem reduceMax_apply (y : Vec Ideal S8x8x4096x4096 .f32) (b h : Fin 8) (t : Fin 4096) :
    Host.reduce (FloatOps.maximumf (F := Ideal) (φ := .f32)) y (val_main_cst_1 (F := Ideal)) reducesTo_S8x8x4096x4096_S8x8x4096_d3 h_S_ (ix3 b h t)
      = (Finset.univ : Finset (Fin 4096)).fold max ⊥ fun s => y (ix4 b h t s) := by
  rw [Host.reduce_eq_fold_single (s := S8x8x4096x4096) (t := S8x8x4096) (a := (3 : Fin 4)) (FloatOps.maximumf (F := Ideal) (φ := .f32)) y _
    reducesTo_S8x8x4096x4096_S8x8x4096_d3 (by decide) h_S_, val_main_cst_1_apply, Ideal.ofBits_def, negInf_eq]
  refine Finset.fold_congr fun s _ => congrArg y (funext fun a => Fin.ext ?_)
  match a with
  | ⟨0, _⟩ => rfl
  | ⟨1, _⟩ => rfl
  | ⟨2, _⟩ => rfl
  | ⟨3, _⟩ => rfl

theorem ref_max_apply (b h : Fin 8) (t : Fin 4096) :
    val_main_v21 (F := Ideal) x0 x1 x3 (ix3 b h t) = refMax x0 x1 x3 b h t := by
  rw [val_main_v21_apply, val_main_v20_apply, val_main_v19, reduceMax_apply]
  simp only [ref_score_apply, val_main_cst_2_apply, Ideal.ofBits_def, negInf_eq, Ideal.maximumf_def]
  rfl

/-- The exponential of a score less the largest score. -/
theorem ref_exp_apply (b h : Fin 8) (t s : Fin 4096) :
    val_main_v25 (F := Ideal) x0 x1 x3 (ix4 b h t s) = Ideal.exp (refScore x0 x1 x3 b h t s - refMax x0 x1 x3 b h t) := by
  have e : idx_main_v22 (idx_main_v23 (ix4 b h t s)) = ix3 b h t := by
    funext a; match a with | ⟨0, _⟩ => rfl | ⟨1, _⟩ => rfl | ⟨2, _⟩ => rfl
  rw [val_main_v25_apply, val_main_v24_apply, val_main_v23_apply, val_main_v22_apply, e, ref_max_apply, ref_score_apply,
    Ideal.subf_def, Ideal.hostUnary_exp_def]

/-- The weight of a key. -/
theorem ref_weight_apply (b h : Fin 8) (t s : Fin 4096) :
    val_main_v29 (F := Ideal) x0 x1 x3 (ix4 b h t s)
      = Ideal.div (Ideal.exp (refScore x0 x1 x3 b h t s - refMax x0 x1 x3 b h t))
          (0 + ∑ s' : Fin 4096, Ideal.exp (refScore x0 x1 x3 b h t s' - refMax x0 x1 x3 b h t)) := by
  have e : idx_main_v27 (idx_main_v28 (ix4 b h t s)) = ix3 b h t := by
    funext a; match a with | ⟨0, _⟩ => rfl | ⟨1, _⟩ => rfl | ⟨2, _⟩ => rfl
  have e' : ∀ k, idx_main_v26 (ix3 b h t) k = ix4 b h t k := by
    intro k; funext a; match a with | ⟨0, _⟩ => rfl | ⟨1, _⟩ => rfl | ⟨2, _⟩ => rfl | ⟨3, _⟩ => rfl
  rw [val_main_v29_apply, val_main_v28_apply, val_main_v27_apply, e, val_main_v26_apply, ref_exp_apply, Ideal.hostDivf_def,
    val_main_cst_3_apply, Finset.sum_congr rfl fun k _ => (congrArg _ (e' k)).trans (ref_exp_apply x0 x1 x3 b h t k), Ideal.ofBits_def,
    zero_eq]

/-- The reference's result at an index. -/
theorem ref_apply (b : Fin 8) (t : Fin 4096) (j : Fin 512) (h : Fin 8) (d : Fin 64) (hj : j.val = 64 * h.val + d.val) :
    val_main_v32 (F := Ideal) x0 x1 x2 x3 (ix3 b t j)
      = ∑ s : Fin 4096, x2 (ix4 b s h d)
          * Ideal.div (Ideal.exp (refScore x0 x1 x3 b h t s - refMax x0 x1 x3 b h t))
            (0 + ∑ s' : Fin 4096, Ideal.exp (refScore x0 x1 x3 b h t s' - refMax x0 x1 x3 b h t)) := by
  have e0 : idx_main_v31 (idx_main_v32 (ix3 b t j)) = ix4 b h d t := by
    have := b.isLt; have := t.isLt; have := h.isLt; have := d.isLt
    funext a
    match a with
    | ⟨0, _⟩ => apply Fin.ext; show _ = b.val; dsimp; omega
    | ⟨1, _⟩ => apply Fin.ext; show _ = h.val; dsimp; omega
    | ⟨2, _⟩ => apply Fin.ext; show _ = d.val; dsimp; omega
    | ⟨3, _⟩ => apply Fin.ext; show _ = t.val; dsimp; omega
  rw [val_main_v32_apply, val_main_v31_apply, val_main_v30_apply, e0]
  refine Finset.sum_congr rfl fun s _ => ?_
  have e1 : lidx_main_v30 (ix4 b h d t) s = ix4 b s h d := by
    funext a; match a with | ⟨0, _⟩ => rfl | ⟨1, _⟩ => rfl | ⟨2, _⟩ => rfl | ⟨3, _⟩ => rfl
  have e2 : ridx_main_v30 (ix4 b h d t) s = ix4 b h t s := by
    funext a; match a with | ⟨0, _⟩ => rfl | ⟨1, _⟩ => rfl | ⟨2, _⟩ => rfl | ⟨3, _⟩ => rfl
  rw [e1, e2, ref_weight_apply]

end Cert.Attn

end
-- ==== Proof.Attn.Score.lean ====
/-
  A grid point's output against the reference: the kernel's score of a key is the reference's, times log2 e, so the two
  softmaxes give the same weights.
-/
module

public import proofs.«01_k».proof.Proof.Attn.Chain
public import proofs.«01_k».proof.Proof.Attn.Softmax
public import proofs.«01_k».proof.Proof.Attn.Reference

@[expose] public section

set_option maxRecDepth 16384

noncomputable section

namespace Cert.Attn

open Idealize.ShloMosaic Cert.KernelIdeal Cert.KernelIdeal.Gen

/-- A product with a head's query columns runs over the rows that the head keeps. -/
theorem sum_ownRow {p h : ℕ} (hp : p < 4) (hh : h < 2) (K Q : ℕ → EReal) :
    (∑ j : Fin 256, K j.val * (if OwnRow p h j.val then Q j.val else 0))
      = (∑ i ∈ Finset.range 64, K (64 * h + i) * Q (64 * h + i))
        + ∑ i ∈ Finset.range 6, K (128 + 6 * (2 * p + h) + i) * Q (128 + 6 * (2 * p + h) + i) := by
  have hset : (Finset.range 256).filter (OwnRow p h)
      = Finset.Ico (64 * h) (64 * h + 64) ∪ Finset.Ico (128 + 6 * (2 * p + h)) (128 + 6 * (2 * p + h) + 6) := by
    ext j
    simp only [Finset.mem_filter, Finset.mem_range, Finset.mem_union, Finset.mem_Ico, OwnRow]
    omega
  have hdis : Disjoint (Finset.Ico (64 * h) (64 * h + 64)) (Finset.Ico (128 + 6 * (2 * p + h)) (128 + 6 * (2 * p + h) + 6)) := by
    rw [Finset.disjoint_left]
    intro j
    simp only [Finset.mem_Ico]
    omega
  rw [Fin.sum_univ_eq_sum_range (fun j => K j * (if OwnRow p h j then Q j else 0)) 256]
  simp only [mul_ite, mul_zero]
  rw [← Finset.sum_filter, hset, Finset.sum_union hdis, Finset.sum_Ico_eq_sum_range, Finset.sum_Ico_eq_sum_range]
  simp only [Nat.add_sub_cancel_left]

variable {A0 A1 A2 : Vec Ideal S8x4096x8x64 .f32} {A3 : Vec Ideal S8x4096x8 .f32}

/-- The blocks of the grid point of batch `b` and head pair `p`, as the arrays' entries. -/
structure Blocks (A0 A1 A2 : Vec Ideal S8x4096x8x64 .f32) (r : S8x4096x8.Idx → ℝ) (b : Fin 8) (p : Fin 4)
    (x0 x1 : Vec Ideal S1x128x4096 .bf16) (x2 x3 : Vec Ideal S1x4096x128 .bf16) (x4 : Vec Ideal S1x16x128x256 .bf16) : Prop where
  q : ∀ (h : Fin 2) (i : Fin 64) (t : Fin 4096), x0 (ix3 0 ⟨64 * h.val + i.val, by omega⟩ t)
    = A0 (ix4 b t ⟨2 * p.val + h.val, by omega⟩ i) * (((1 / 8 : ℝ) : EReal) * (log2e : EReal))
  k : ∀ (h : Fin 2) (i : Fin 64) (s : Fin 4096), x2 (ix3 0 s ⟨64 * h.val + i.val, by omega⟩)
    = A1 (ix4 b s ⟨2 * p.val + h.val, by omega⟩ i)
  v : ∀ (h : Fin 2) (i : Fin 64) (s : Fin 4096), vals x4 (64 * h.val + i.val) s.val
    = A2 (ix4 b s ⟨2 * p.val + h.val, by omega⟩ i)
  xq : ∀ (H : Fin 8) (i : Fin 6) (t : Fin 4096), x1 (ix3 0 ⟨6 * H.val + i.val, by omega⟩ t)
    = if i.val = 0 then ((r (ix3 b t H) * log2e : ℝ) : EReal) else if i.val < 3 then 0 else 1
  xk : ∀ (H : Fin 8) (i : Fin 6) (s : Fin 4096), x3 (ix3 0 s ⟨6 * H.val + i.val, by omega⟩)
    = if i.val < 3 then 1 else if i.val = 3 then ((-(r (ix3 b s H) * log2e) : ℝ) : EReal) else 0

/-- The score of key `s` as a real number. -/
def realScore (a0 a1 : S8x4096x8x64.Idx → ℝ) (r : S8x4096x8.Idx → ℝ) (b h : Fin 8) (t : Fin 4096) (s : ℕ) : ℝ :=
  if hs : s < 4096 then
    (∑ i : Fin 64, a0 (ix4 b t h i) * a1 (ix4 b ⟨s, hs⟩ h i)) * (1 / 8) + r (ix3 b t h) - r (ix3 b ⟨s, hs⟩ h)
  else 0

section

variable {a0 a1 : S8x4096x8x64.Idx → ℝ} {r : S8x4096x8.Idx → ℝ} (h0 : ∀ i, A0 i = (a0 i : EReal)) (h1 : ∀ i, A1 i = (a1 i : EReal))
  (h3 : ∀ i, cum A3 i = (r i : EReal))

include h0 h1 in
/-- The kernel's score is the real score, times log2 e. -/
theorem score_eq {b : Fin 8} {p : Fin 4} {x0 x1 x2 x3 x4} (B : Blocks A0 A1 A2 r b p x0 x1 x2 x3 x4) (h : Fin 2) (t : Fin 4096) (s : ℕ) :
    score (keyRow x2 x3) (headCol p.val h.val x0 x1) s t.val
      = ((log2e * realScore a0 a1 r b ⟨2 * p.val + h.val, by omega⟩ t s : ℝ) : EReal) := by
  unfold score headCol
  rw [sum_ownRow p.isLt h.isLt (fun j => keyRow x2 x3 s j) (fun j => queryCol x0 x1 j t.val)]
  by_cases hs : s < 4096
  · have e1 : ∀ i ∈ Finset.range 64, keyRow x2 x3 s (64 * h.val + i) * queryCol x0 x1 (64 * h.val + i) t.val
        = (((if hi : i < 64 then a0 (ix4 b t ⟨2 * p.val + h.val, by omega⟩ ⟨i, hi⟩) * a1 (ix4 b ⟨s, hs⟩ ⟨2 * p.val + h.val, by omega⟩ ⟨i, hi⟩) else 0)
            * (1 / 8 * log2e) : ℝ) : EReal) := by
      intro i hi
      have hi := Finset.mem_range.mp hi
      have hr : 64 * h.val + i < 128 := by omega
      unfold keyRow queryCol rows cols
      rw [if_pos hr, if_pos hr, dif_pos ⟨hs, hr⟩, dif_pos ⟨hr, t.isLt⟩, dif_pos hi]
      rw [B.k h ⟨i, hi⟩ ⟨s, hs⟩, B.q h ⟨i, hi⟩ t, h0, h1, ← EReal.coe_mul, ← EReal.coe_mul, ← EReal.coe_mul]
      congr 1
      ring
    have hH : 2 * p.val + h.val < 8 := by omega
    have e2 : ∀ i, (hi : i < 6) → keyRow x2 x3 s (128 + 6 * (2 * p.val + h.val) + i) * queryCol x0 x1 (128 + 6 * (2 * p.val + h.val) + i) t.val
        = (if i < 3 then 1 else if i = 3 then ((-(r (ix3 b ⟨s, hs⟩ ⟨2 * p.val + h.val, hH⟩) * log2e) : ℝ) : EReal) else 0)
          * (if i = 0 then ((r (ix3 b t ⟨2 * p.val + h.val, hH⟩) * log2e : ℝ) : EReal) else if i < 3 then 0 else 1) := by
      intro i hi
      have hr : ¬ 128 + 6 * (2 * p.val + h.val) + i < 128 := by omega
      have hr' : 6 * (2 * p.val + h.val) + i < 128 := by omega
      have hsub : 128 + 6 * (2 * p.val + h.val) + i - 128 = 6 * (2 * p.val + h.val) + i := by omega
      unfold keyRow queryCol rows cols
      rw [if_neg hr, if_neg hr]
      simp only [hsub]
      rw [dif_pos ⟨hs, hr'⟩, dif_pos ⟨hr', t.isLt⟩]
      exact congrArg₂ (· * ·) (B.xk ⟨2 * p.val + h.val, hH⟩ ⟨i, hi⟩ ⟨s, hs⟩) (B.xq ⟨2 * p.val + h.val, hH⟩ ⟨i, hi⟩ t)
    rw [Finset.sum_congr rfl e1, coe_sum, ← Finset.sum_mul, Finset.sum_range]
    simp only [Finset.sum_range_succ, Finset.sum_range_zero]
    rw [e2 0 (by omega), e2 1 (by omega), e2 2 (by omega), e2 3 (by omega), e2 4 (by omega), e2 5 (by omega)]
    simp only [Fin.is_lt, dite_true, Fin.eta]
    norm_num
    unfold realScore
    rw [dif_pos hs]
    simp only [← EReal.coe_mul, ← EReal.coe_neg, ← EReal.coe_add]
    congr 1
    ring
  · have hz : ∀ j, keyRow x2 x3 s j = 0 := by
      intro j
      unfold keyRow rows
      split_ifs <;> first | rfl | omega
    unfold realScore
    simp [hz, hs]

include h0 h1 h3 in
/-- The reference's score is the real score. -/
theorem refScore_eq (b h : Fin 8) (t s : Fin 4096) :
    refScore A0 A1 A3 b h t s = if s.val ≤ t.val then (realScore a0 a1 r b h t s.val : EReal) else ⊥ := by
  unfold refScore realScore
  rw [dif_pos s.isLt]
  simp only [h0, h1, h3, ← EReal.coe_mul]
  have : (∑ k : Fin 64, ((a0 (ix4 b t h k) * a1 (ix4 b s h k) : ℝ) : EReal)) = ((∑ k : Fin 64, a0 (ix4 b t h k) * a1 (ix4 b s h k) : ℝ) : EReal) :=
    coe_sum _ _
  rw [this, ← EReal.coe_mul, ← EReal.coe_add, ← EReal.coe_sub]

include h0 h1 h3 in
/-- The largest score of a query is a real number: key 0 is before every query, and no score is +∞. -/
theorem refMax_real (b h : Fin 8) (t : Fin 4096) : ∃ M : ℝ, refMax A0 A1 A3 b h t = (M : EReal) := by
  have hlt : refMax A0 A1 A3 b h t < ⊤ := by
    refine max_lt bot_lt_top ((Finset.fold_max_lt _).mpr ⟨bot_lt_top, fun s _ => ?_⟩)
    rw [refScore_eq h0 h1 h3]
    split_ifs
    · exact EReal.coe_lt_top _
    · exact bot_lt_top
  have hgt : ⊥ < refMax A0 A1 A3 b h t := by
    refine lt_of_lt_of_le ?_ (le_max_right _ _)
    refine (Finset.lt_fold_max _).mpr (Or.inr ⟨⟨0, by decide⟩, Finset.mem_univ _, ?_⟩)
    rw [refScore_eq h0 h1 h3, if_pos (Nat.zero_le _)]
    exact EReal.bot_lt_coe _
  exact ⟨_, (EReal.coe_toReal hlt.ne hgt.ne').symm⟩

include h0 h1 h3 in
/-- A grid point's output, entry by entry, is the reference's. -/
theorem headOut_eq {b : Fin 8} {p : Fin 4} {x0 x1 x2 x3 x4} (B : Blocks A0 A1 A2 r b p x0 x1 x2 x3 x4) (h : Fin 2) (d : Fin 64)
    (t : Fin 4096) (j : Fin 512) (hj : j.val = 64 * (2 * p.val + h.val) + d.val) :
    headOut p.val h.val x0 x1 x2 x3 x4 d.val t.val
      = Cert.ReferenceIdeal.Read.val_main_v32 (F := Ideal) A0 A1 A2 A3 (ix3 b t j) := by
  have hH : 2 * p.val + h.val < 8 := by omega
  rw [ref_apply A0 A1 A2 A3 b t j ⟨2 * p.val + h.val, hH⟩ d hj]
  have hsc := score_eq h0 h1 B h t
  obtain ⟨M, hM⟩ := runMax_real (score (keyRow x2 x3) (headCol p.val h.val x0 x1)) (n := 4096) (t := t.val) (by decide) fun s => ⟨_, hsc s⟩
  obtain ⟨M', hM'⟩ := refMax_real h0 h1 h3 b ⟨2 * p.val + h.val, hH⟩ t
  have key := softmax_eq t.isLt (realScore a0 a1 r b ⟨2 * p.val + h.val, hH⟩ t) (fun s => vals x4 (64 * h.val + d.val) s) M M'
  unfold headOut runSum
  simp only [masked, hsc, hM, hM', refScore_eq h0 h1 h3, withOne, d.isLt, if_true, if_neg (Nat.lt_irrefl 64)]
  refine key.trans ?_
  rw [Finset.sum_range, Finset.sum_range]
  refine Finset.sum_congr rfl fun s _ => ?_
  rw [B.v h d s]

end

end Cert.Attn

end
-- ==== Proof.Attn.Final.lean ====
/-
  The kernel's result array: the reference's, of the arguments.
-/
module

public import proofs.«01_k».proof.Proof.Gen.Pre_finite
public import proofs.«01_k».proof.Proof.Attn.Score
public import Idealize.ShloMosaic.Lib.ReduceAll

@[expose] public section

set_option maxRecDepth 16384

noncomputable section

namespace Cert.Attn

open Idealize.ShloMosaic Idealize.ShloMosaic.TcCoe Idealize.SL.Sem
open Cert.KernelIdeal Cert.KernelIdeal.Gen Cert.KernelIdeal.Value

/-! ## The arguments are real numbers -/

/-- An extended real whose magnitude is below the pattern of +∞ is a real number. -/
theorem real_of_abs_lt {x : EReal} (h : FloatOps.cmpf (F := Ideal) (φ := .f32) .olt (FloatOps.hostAbsf (F := Ideal) (φ := .f32) x) (Ideal.ofBits .f32 0x7F800000#32) = 1#1) :
    ∃ r : ℝ, x = r := by
  have hinf : Ideal.ofBits .f32 0x7F800000#32 = ⊤ := by simp [Ideal.ofBits, Ideal.ieee]
  have h : BitVec.ofBool (decide (max x (-x) < ⊤)) = 1#1 := by rw [hinf] at h; exact h
  have h : max x (-x) < ⊤ := by
    by_contra hn
    rw [decide_eq_false hn] at h
    exact absurd h (by decide)
  obtain ⟨h1, h2⟩ := max_lt_iff.mp h
  have h3 : x ≠ ⊥ := fun e => by rw [e, EReal.neg_bot] at h2; exact lt_irrefl _ h2
  exact ⟨x.toReal, (EReal.coe_toReal h1.ne h3).symm⟩

/-- What the precondition says: the queries, the keys and the log forget gates are real numbers. -/
theorem reals_of_finite (x0 x1 x2 : Vec Ideal S8x4096x8x64 .f32) (x3 : Vec Ideal S8x4096x8 .f32)
    (h : Cert.Pre_finite.fn (F := Ideal) x0 x1 x2 x3 = fun _ => 1#1) :
    (∀ i, ∃ r : ℝ, x0 i = r) ∧ (∀ i, ∃ r : ℝ, x1 i = r) ∧ ∀ i, ∃ r : ℝ, x3 i = r := by
  have e := congrFun h ix0
  dsimp only [Cert.Pre_finite.fn] at e
  obtain ⟨e01, e3⟩ := IntOp.andi_eq_one.mp e
  obtain ⟨e0, e1⟩ := IntOp.andi_eq_one.mp e01
  exact ⟨fun i => real_of_abs_lt (Host.reduce_andi_all _ _ _ _ _ e0 i), fun i => real_of_abs_lt (Host.reduce_andi_all _ _ _ _ _ e1 i),
    fun i => real_of_abs_lt (Host.reduce_andi_all _ _ _ _ _ e3 i)⟩

/-! ## The blocks of a grid point -/

variable (m : (ℓ : Loc nD τ sig) → Buf (Elt Ideal) ℓ) (c : Dev nD) (t : Fin cfg0.N)

/-- The batch and the head pair of a grid point. -/
def batch : Fin 8 := grid0.coords t 0
def pair : Fin 4 := grid0.coords t 1

theorem idx0 : ∀ t : Fin cfg0.N, win0_0.index t (0 : Fin 3) = (batch t).val ∧ win0_0.index t (1 : Fin 3) = (pair t).val ∧ win0_0.index t (2 : Fin 3) = 0 :=
  (by decide +kernel : ∀ t : Fin grid0.N, _)
theorem idx1 : ∀ t : Fin cfg0.N, win0_1.index t (0 : Fin 3) = (batch t).val ∧ win0_1.index t (1 : Fin 3) = 0 ∧ win0_1.index t (2 : Fin 3) = 0 :=
  (by decide +kernel : ∀ t : Fin grid0.N, _)
theorem idx2 : ∀ t : Fin cfg0.N, win0_2.index t (0 : Fin 3) = (batch t).val ∧ win0_2.index t (1 : Fin 3) = 0 ∧ win0_2.index t (2 : Fin 3) = (pair t).val :=
  (by decide +kernel : ∀ t : Fin grid0.N, _)
theorem idx3 : ∀ t : Fin cfg0.N, win0_3.index t (0 : Fin 3) = (batch t).val ∧ win0_3.index t (1 : Fin 3) = 0 ∧ win0_3.index t (2 : Fin 3) = 0 :=
  (by decide +kernel : ∀ t : Fin grid0.N, _)
theorem idx4 : ∀ t : Fin cfg0.N, win0_4.index t (0 : Fin 4) = (batch t).val ∧ win0_4.index t (1 : Fin 4) = 0 ∧ win0_4.index t (2 : Fin 4) = (pair t).val ∧ win0_4.index t (3 : Fin 4) = 0 :=
  (by decide +kernel : ∀ t : Fin grid0.N, _)
theorem idx5 : ∀ t : Fin cfg0.N, win0_5.index t (0 : Fin 3) = (batch t).val ∧ win0_5.index t (1 : Fin 3) = 0 ∧ win0_5.index t (2 : Fin 3) = (pair t).val :=
  (by decide +kernel : ∀ t : Fin grid0.N, _)

theorem block0 (j : Fin 128) (s : Fin 4096) :
    (iblk m c 0 t : Vec Ideal S1x128x4096 .bf16) (ix3 0 j s)
      = (V m c main_v40 : Vec Ideal S8x512x4096 .bf16) (ix3 (batch t) ⟨(pair t).val * 128 + j.val, by omega⟩ s) := by
  obtain ⟨e0, e1, e2⟩ := idx0 t
  show V m c main_v40 (((cfg0.win 0).blk t).view.emb (ix3 0 j s)) = _
  refine congrArg (V m c main_v40) (funext fun a => Fin.ext ?_)
  match a with
  | ⟨0, _⟩ => show win0_0.index t (0 : Fin 3) * 1 + 1 * 0 = (batch t).val; omega
  | ⟨1, _⟩ => show win0_0.index t (1 : Fin 3) * 128 + 1 * j.val = (pair t).val * 128 + j.val; omega
  | ⟨2, _⟩ => show win0_0.index t (2 : Fin 3) * 4096 + 1 * s.val = s.val; omega

theorem block1 (j : Fin 128) (s : Fin 4096) :
    (iblk m c 1 t : Vec Ideal S1x128x4096 .bf16) (ix3 0 j s) = (V m c main_v22 : Vec Ideal S8x128x4096 .bf16) (ix3 (batch t) j s) := by
  obtain ⟨e0, e1, e2⟩ := idx1 t
  show V m c main_v22 (((cfg0.win 1).blk t).view.emb (ix3 0 j s)) = _
  refine congrArg (V m c main_v22) (funext fun a => Fin.ext ?_)
  match a with
  | ⟨0, _⟩ => show win0_1.index t (0 : Fin 3) * 1 + 1 * 0 = (batch t).val; omega
  | ⟨1, _⟩ => show win0_1.index t (1 : Fin 3) * 128 + 1 * j.val = j.val; omega
  | ⟨2, _⟩ => show win0_1.index t (2 : Fin 3) * 4096 + 1 * s.val = s.val; omega

theorem block2 (s : Fin 4096) (j : Fin 128) :
    (iblk m c 2 t : Vec Ideal S1x4096x128 .bf16) (ix3 0 s j)
      = (V m c main_v42 : Vec Ideal S8x4096x512 .bf16) (ix3 (batch t) s ⟨(pair t).val * 128 + j.val, by omega⟩) := by
  obtain ⟨e0, e1, e2⟩ := idx2 t
  show V m c main_v42 (((cfg0.win 2).blk t).view.emb (ix3 0 s j)) = _
  refine congrArg (V m c main_v42) (funext fun a => Fin.ext ?_)
  match a with
  | ⟨0, _⟩ => show win0_2.index t (0 : Fin 3) * 1 + 1 * 0 = (batch t).val; omega
  | ⟨1, _⟩ => show win0_2.index t (1 : Fin 3) * 4096 + 1 * s.val = s.val; omega
  | ⟨2, _⟩ => show win0_2.index t (2 : Fin 3) * 128 + 1 * j.val = (pair t).val * 128 + j.val; omega

theorem block3 (s : Fin 4096) (j : Fin 128) :
    (iblk m c 3 t : Vec Ideal S1x4096x128 .bf16) (ix3 0 s j) = (V m c main_v34 : Vec Ideal S8x4096x128 .bf16) (ix3 (batch t) s j) := by
  obtain ⟨e0, e1, e2⟩ := idx3 t
  show V m c main_v34 (((cfg0.win 3).blk t).view.emb (ix3 0 s j)) = _
  refine congrArg (V m c main_v34) (funext fun a => Fin.ext ?_)
  match a with
  | ⟨0, _⟩ => show win0_3.index t (0 : Fin 3) * 1 + 1 * 0 = (batch t).val; omega
  | ⟨1, _⟩ => show win0_3.index t (1 : Fin 3) * 4096 + 1 * s.val = s.val; omega
  | ⟨2, _⟩ => show win0_3.index t (2 : Fin 3) * 128 + 1 * j.val = j.val; omega

theorem block4 (n : Fin 16) (j : Fin 128) (s : Fin 256) :
    (iblk m c 4 t : Vec Ideal S1x16x128x256 .bf16) (ix4 0 n j s)
      = (V m c main_v45 : Vec Ideal S8x16x512x256 .bf16) (ix4 (batch t) n ⟨(pair t).val * 128 + j.val, by omega⟩ s) := by
  obtain ⟨e0, e1, e2, e3⟩ := idx4 t
  show V m c main_v45 (((cfg0.win 4).blk t).view.emb (ix4 0 n j s)) = _
  refine congrArg (V m c main_v45) (funext fun a => Fin.ext ?_)
  match a with
  | ⟨0, _⟩ => show win0_4.index t (0 : Fin 4) * 1 + 1 * 0 = (batch t).val; omega
  | ⟨1, _⟩ => show win0_4.index t (1 : Fin 4) * 16 + 1 * n.val = n.val; omega
  | ⟨2, _⟩ => show win0_4.index t (2 : Fin 4) * 128 + 1 * j.val = (pair t).val * 128 + j.val; omega
  | ⟨3, _⟩ => show win0_4.index t (3 : Fin 4) * 256 + 1 * s.val = s.val; omega

/-- An index of the output's block is in the batch, and in the pair's 128 entries. -/
theorem emb5 (y : S1x4096x128.Idx) :
    ((cfg0.win 5).blk t).view.emb y = (ix3 (batch t) (y 1) ⟨(pair t).val * 128 + (y 2).val, by
      have : (y 2).val < 128 := (y 2).isLt; omega⟩ : S8x4096x512.Idx) := by
  obtain ⟨e0, e1, e2⟩ := idx5 t
  have h0 : (y 0).val = 0 := by have : (y 0).val < 1 := (y 0).isLt; omega
  funext a; apply Fin.ext
  match a with
  | ⟨0, _⟩ => show win0_5.index t (0 : Fin 3) * 1 + 1 * (y 0).val = (batch t).val; omega
  | ⟨1, _⟩ => show win0_5.index t (1 : Fin 3) * 4096 + 1 * (y 1).val = (y 1).val; omega
  | ⟨2, _⟩ => show win0_5.index t (2 : Fin 3) * 128 + 1 * (y 2).val = (pair t).val * 128 + (y 2).val; omega

variable {r : S8x4096x8.Idx → ℝ} (hr : ∀ i, cum (argF m c) i = (r i : EReal))

include hr in
/-- The blocks of a grid point hold the arguments' entries. -/
theorem blocks : Blocks (argQ m c) (argK m c) (argV m c) r (batch t) (pair t)
    (iblk m c 0 t) (iblk m c 1 t) (iblk m c 2 t) (iblk m c 3 t) (iblk m c 4 t) where
  q h i s := by
    rw [block0, entry_q]
    congr 3 <;> · apply Fin.ext; dsimp; omega
  k h i s := by
    rw [block2, entry_k]
    congr 2 <;> · apply Fin.ext; dsimp; omega
  v h i s := by
    have hs := s.isLt
    have hd : 64 * h.val + i.val < 128 ∧ s.val / 256 < 16 := by omega
    unfold vals
    rw [dif_pos hd, block4, entry_v]
    congr 2 <;> · apply Fin.ext; dsimp; omega
  xq H i s := by
    have hm : (6 * H.val + i.val) % 6 = i.val := by omega
    have hd : (6 * H.val + i.val) / 6 = H.val := by omega
    rw [block1, entry_xq m c hr _ _ _ (by dsimp; omega)]
    simp only [hm, hd, Fin.eta]
  xk H i s := by
    have hm : (6 * H.val + i.val) % 6 = i.val := by omega
    have hd : (6 * H.val + i.val) / 6 = H.val := by omega
    rw [block3, entry_xk m c hr _ _ _ (by dsimp; omega)]
    simp only [hm, hd, Fin.eta]

/-- The reference's result, of the kernel's arguments. -/
abbrev result : Vec Ideal S8x4096x512 .f32 :=
  Cert.ReferenceIdeal.Read.val_main_v32 (F := Ideal) (argQ m c) (argK m c) (argV m c) (argF m c)

variable {a0 a1 : S8x4096x8x64.Idx → ℝ} (h0 : ∀ i, argQ m c i = (a0 i : EReal)) (h1 : ∀ i, argK m c i = (a1 i : EReal))

include hr h0 h1 in
/-- What a grid point writes back is its block of the reference's result. -/
theorem flushed5_eq : (dats m 0 c).flushed 5 t = ((cfg0.win 5).blk t).view.read (Elt Ideal) (result m c) := by
  rw [flushed5_A]
  funext y
  show out0_A_5 (F := Ideal) c (grid0.coords t) _ _ _ _ _ _ _ _ _ _ _ _ _ _ _ _ _ _ _ _ _ _ _ _ _ y = result m c (((cfg0.win 5).blk t).view.emb y)
  rw [emb5 t y, body_apply]
  have hy : (y 2).val < 128 := (y 2).isLt
  exact headOut_eq h0 h1 hr (blocks m c t hr) ⟨(y 2).val / 64, by omega⟩ ⟨(y 2).val % 64, by omega⟩ (y 1) _ (by dsimp; omega)

/-- Every index of the result is in some grid point's block. -/
theorem covered5 (i : S8x4096x512.Idx) : ∃ t : Fin cfg0.N, (cfg0.win 5).flush t = true ∧ i ∈ ((cfg0.win 5).blk t).view.set := by
  have hpt : ∀ (b : Fin 8) (p : Fin 4), ∃ t : Fin cfg0.N, batch t = b ∧ pair t = p := (by decide +kernel : ∀ (b : Fin 8) (p : Fin 4), ∃ t : Fin grid0.N, batch t = b ∧ pair t = p)
  have h2 : (i 2).val < 512 := (i 2).isLt
  obtain ⟨t, hb, hp⟩ := hpt (i 0) ⟨(i 2).val / 128, by omega⟩
  refine ⟨t, flush0_5 t, ?_⟩
  have h := ((cfg0.win 5).blk t).view.emb_mem_set (ix3 0 (i 1) ⟨(i 2).val % 128, by omega⟩ : S1x4096x128.Idx)
  have e : ((cfg0.win 5).blk t).view.emb (ix3 0 (i 1) ⟨(i 2).val % 128, by omega⟩ : S1x4096x128.Idx) = i := by
    refine (emb5 t _).trans (funext fun a => Fin.ext ?_)
    match a with
    | ⟨0, _⟩ => exact congrArg Fin.val hb
    | ⟨1, _⟩ => rfl
    | ⟨2, _⟩ =>
      show (pair t).val * 128 + (i 2).val % 128 = (i 2).val
      rw [hp]
      dsimp; omega
  rwa [e] at h

/-- The result array after the run is the reference's result, where the queries, the keys and the forget gates are real. -/
theorem final5 (hq : ∀ i, ∃ x : ℝ, argQ m c i = x) (hk : ∀ i, ∃ x : ℝ, argK m c i = x) (hf : ∀ i, ∃ x : ℝ, argF m c i = x) :
    (dats m 0 c).arrAt 5 cfg0.N = result m c := by
  choose a0 h0 using hq
  choose a1 h1 using hk
  choose r hr using cum_real _ hf
  exact (dats m 0 c).arrAt_eq_of_cover 5 (result m c) (fun t _ => flushed5_eq m c t hr h0 h1) covered5

end Cert.Attn

end
-- ==== Proof.Post.Row.lean ====
/-
  What follows the mixers of a layer, for one token: the function of a token's rows that both programs compute.

  A token brings its residual stream (1024 entries), the attention's output (512), the gMLP group's normalised output (512)
  and its per-layer input embedding (256). `Weights` are the layer's gains and matrices; `result` is the token's residual
  stream after the layer. The rest reads the kernel's vector operations, at any number of rows, as these functions of a row.
-/
module

public import proofs.«01_k».proof.Proof.Attn.Step
public import Idealize.ShloMosaic.PureOps.Ideal.Laws

@[expose] public section

noncomputable section

namespace Cert.Post

open Idealize.ShloMosaic

theorem mul {a b c d : EReal} (h : a = b) (h' : c = d) : a * c = b * d := by rw [h, h']

theorem add {a b c d : EReal} (h : a = b) (h' : c = d) : a + c = b + d := by rw [h, h']

/-! ## One token -/

/-- The reciprocal root mean square of a row; `n` is the pattern of its length. -/
def inv (n : BitVec 32) {N : ℕ} (x : Fin N → EReal) : EReal :=
  Ideal.rsqrt (Ideal.div (∑ k, x k * x k) (Ideal.ofBits .f32 n) + Ideal.ofBits .f32 0x358637BD#32)

/-- A row over its root mean square. -/
def rms (n : BitVec 32) {N : ℕ} (x : Fin N → EReal) : Fin N → EReal := fun j => x j * inv n x

/-- A row times a matrix. -/
def dot {K N : ℕ} (x : Fin K → EReal) (w : Fin K → Fin N → EReal) : Fin N → EReal := fun j => ∑ k, x k * w k j

/-- A layer's gains and matrices. -/
structure Weights where
  gatt : Fin 512 → EReal
  wout : Fin 1024 → Fin 1024 → EReal
  gpost : Fin 1024 → EReal
  gpre : Fin 1024 → EReal
  wa : Fin 1024 → Fin 2816 → EReal
  wb : Fin 1024 → Fin 2816 → EReal
  wfo : Fin 2816 → Fin 1024 → EReal
  gfpost : Fin 1024 → EReal
  wple : Fin 256 → Fin 1024 → EReal
  gple : Fin 1024 → EReal
  wgate : Fin 1024 → Fin 1024 → EReal

/-- A token's rows. -/
structure Token where
  h : Fin 1024 → EReal
  att : Fin 512 → EReal
  gm : Fin 512 → EReal
  p : Fin 256 → EReal

namespace Token

variable (W : Weights) (x : Token)

/-- The attention's output, normalised. -/
def an : Fin 512 → EReal := fun j => rms 0x44000000#32 x.att j * W.gatt j

/-- The two mixers' outputs side by side. -/
def mixed : Fin 1024 → EReal := fun k => if hk : k.val < 512 then x.an W ⟨k.val, hk⟩ else x.gm ⟨k.val - 512, by omega⟩

/-- The output projection. -/
def y : Fin 1024 → EReal := dot (x.mixed W) W.wout

/-- The residual stream after the mixers. -/
def h1 : Fin 1024 → EReal := fun j => x.h j + rms 0x44800000#32 (x.y W) j * W.gpost j

/-- The feed-forward part's input. -/
def hn : Fin 1024 → EReal := fun j => rms 0x44800000#32 (x.h1 W) j * W.gpre j

/-- SwiGLU's hidden row. -/
def act : Fin 2816 → EReal := fun j => dot (x.hn W) W.wa j * Ideal.logistic (dot (x.hn W) W.wa j) * dot (x.hn W) W.wb j

/-- The feed-forward part's output. -/
def f : Fin 1024 → EReal := dot (x.act W) W.wfo

/-- The residual stream after the feed-forward part. -/
def h2 : Fin 1024 → EReal := fun j => x.h1 W j + rms 0x44800000#32 (x.f W) j * W.gfpost j

/-- The embedding to be added. -/
def e : Fin 1024 → EReal := fun j => rms 0x44800000#32 (dot x.p W.wple) j * W.gple j

/-- The residual stream after the layer. -/
def result : Fin 1024 → EReal := fun j => x.h2 W j + Ideal.logistic (dot (rms 0x44800000#32 (x.h2 W)) W.wgate j) * x.e W j

/-- The output projection in two halves, one for each mixer. -/
theorem y_eq (j : Fin 1024) :
    dot (x.an W) (fun k => W.wout ⟨k.val, by omega⟩) j + dot x.gm (fun k => W.wout ⟨512 + k.val, by omega⟩) j = x.y W j := by
  unfold y dot
  rw [show (∑ k : Fin 1024, x.mixed W k * W.wout k j) = ∑ k : Fin (512 + 512), x.mixed W k * W.wout k j from rfl, Fin.sum_univ_add]
  refine congrArg₂ (fun a b : EReal => a + b) ?_ ?_
  · refine Finset.sum_congr rfl fun k _ => ?_
    have hk : x.mixed W (Fin.castAdd 512 k) = x.an W k := dif_pos k.isLt
    rw [hk]; rfl
  · refine Finset.sum_congr rfl fun k _ => ?_
    have hk : x.mixed W (Fin.natAdd 512 k) = x.gm k := by
      refine (dif_neg (show ¬ 512 + k.val < 512 by omega)).trans (congrArg x.gm (Fin.ext ?_))
      show 512 + k.val - 512 = k.val
      omega
    rw [hk]; rfl

end Token

/-! ## The kernel's vectors, row by row -/

section Vec

variable {α : Type} {a b : ℕ}

theorem cast_col (v : (⟨1, ![a]⟩ : Shape).Idx → α) (h : (⟨1, ![a]⟩ : Shape).ShapeCasts ⟨2, ![a, 1]⟩) (i : Fin a) :
    shapeCast (⟨2, ![a, 1]⟩ : Shape) v h (ix2 i 0) = v (ix1 i) := by
  refine shapeCast_apply _ _ _ _ ?_
  rw [Shape.rowMajor_val_one, Shape.rowMajor_val_two]
  simp

theorem bcast_col (v : (⟨2, ![a, 1]⟩ : Shape).Idx → α) (h : (⟨2, ![a, 1]⟩ : Shape).Broadcasts ⟨2, ![a, b]⟩) (i : Fin a) (j : Fin b) :
    broadcastTo (⟨2, ![a, b]⟩ : Shape) v h (ix2 i j) = v (ix2 i 0) := by
  refine broadcastTo_apply _ _ _ _ fun k => ?_
  match k with
  | ⟨0, _⟩ =>
    show i.val = if a = 1 then 0 else i.val
    have := i.isLt
    split <;> omega
  | ⟨1, _⟩ => rfl

/-- A sum along the rows. -/
theorem sumCols_apply (x : FVec Ideal ⟨2, ![a, b]⟩ .f32) (h) (i : Fin a) :
    multiReduction .add [1] (⟨1, ![a]⟩ : Shape) x 0x00000000#32 h (.inl rfl) rfl (ix1 i) = ∑ k : Fin b, x (ix2 i k) := by
  refine (Ideal.multiReduction_add_single x 0x00000000#32 h (.inl rfl) rfl (ix1 i)).trans ?_
  refine Finset.sum_congr rfl fun k _ => congrArg x (funext fun c => ?_)
  match c with
  | ⟨0, _⟩ => rfl
  | ⟨1, _⟩ => rfl

/-- The reciprocal root mean square of each row, spread over the row. -/
theorem inv_apply (n : BitVec 32) (x : FVec Ideal ⟨2, ![a, b]⟩ .f32) (h1) (h2) (h3) (i : Fin a) (j : Fin b) :
    broadcastTo (⟨2, ![a, b]⟩ : Shape) (rsqrt (addf (divf (shapeCast (⟨2, ![a, 1]⟩ : Shape)
        (multiReduction .add [1] (⟨1, ![a]⟩ : Shape) (mulf x x) 0x00000000#32 h1 (.inl rfl) rfl) h2)
      (broadcast (⟨2, ![a, 1]⟩ : Shape) (Scalar.ofBits (F := Ideal) .f32 n))) (broadcast (⟨2, ![a, 1]⟩ : Shape) (Scalar.ofBits (F := Ideal) .f32 0x358637BD#32)))) h3 (ix2 i j)
      = inv n (fun k => x (ix2 i k)) := by
  rw [bcast_col]
  show Ideal.rsqrt (Ideal.div (shapeCast _ _ h2 (ix2 i 0)) (Ideal.ofBits .f32 n) + Ideal.ofBits .f32 0x358637BD#32) = _
  rw [cast_col, sumCols_apply]
  rfl

/-- A gain, spread over the rows. -/
theorem gain_apply (g : (⟨3, ![1, 1, b]⟩ : Shape).Idx → α) (h1) (h2) (i : Fin a) (j : Fin b) :
    broadcastTo (⟨2, ![a, b]⟩ : Shape) (shapeCast (⟨2, ![1, b]⟩ : Shape) g h1) h2 (ix2 i j) = g (ix3 0 0 j) := by
  rw [Attn.bcast_row, Attn.cast_drop1]

theorem cast_same {s : Shape} (v : s.Idx → α) (h : s.ShapeCasts s) : shapeCast s v h = v :=
  funext fun i => shapeCast_apply _ _ _ _ rfl

theorem zero_eq : Ideal.ofBits .f32 0x00000000#32 = 0 := by simp [Ideal.ofBits, Ideal.ieee]

/-- A product with a weight matrix, row by row. -/
theorem mm_row {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨3, ![1, K, N]⟩ φ₂) (h) (i : Fin M) (j : Fin N) :
    matmul D none l (shapeCast (⟨2, ![K, N]⟩ : Shape) r h) (constant (⟨2, ![M, N]⟩ : Shape) .f32 0x00000000#32) (ix2 i j)
      = dot (fun k => l (ix2 i k)) (fun k n => r (ix3 0 k n)) j := by
  subst hD
  refine (Attn.mm_apply _ l _ _ i j).trans ?_
  show Ideal.ofBits .f32 0x00000000#32 + _ = _
  rw [zero_eq, zero_add]
  exact Finset.sum_congr rfl fun k _ => by rw [Attn.cast_drop1]

/-- A product whose left operand lies transposed: its column times the weight matrix. -/
theorem mm_col {M K N : ℕ} {φ₁ φ₂ : FTy} (D : DotDims ⟨2, ![K, M]⟩ ⟨2, ![K, N]⟩ ⟨2, ![M, N]⟩) (wf) (hD : D = ⟨[0], [0], [1], [1], [], [], wf⟩)
    (l : FVec Ideal ⟨3, ![1, K, M]⟩ φ₁) (r : FVec Ideal ⟨3, ![1, K, N]⟩ φ₂) (h) (h') (i : Fin M) (j : Fin N) :
    matmul D none (shapeCast (⟨2, ![K, M]⟩ : Shape) l h') (shapeCast (⟨2, ![K, N]⟩ : Shape) r h) (constant (⟨2, ![M, N]⟩ : Shape) .f32 0x00000000#32) (ix2 i j)
      = dot (fun k => l (ix3 0 k i)) (fun k n => r (ix3 0 k n)) j := by
  subst hD
  refine (Ideal.matmul_apply _ _ _ _ _ _).trans ?_
  show Ideal.ofBits .f32 0x00000000#32 + _ = _
  rw [zero_eq, zero_add, ← Equiv.sum_comp (ValueIdx.contrEquiv1 _ K rfl rfl).symm]
  refine Finset.sum_congr rfl fun k _ => ?_
  have hk := ValueIdx.contrEquiv1_symm_val (⟨[0], [0], [1], [1], [], [], wf⟩ : DotDims ⟨2, ![K, M]⟩ ⟨2, ![K, N]⟩ ⟨2, ![M, N]⟩) K rfl rfl k
  refine congrArg₂ (fun x y : EReal => x * y) (Eq.trans (congrArg _ ?_) (Attn.cast_drop1 l h' k i)) (Eq.trans (congrArg _ ?_) (Attn.cast_drop1 r h k j))
  · funext c; apply Fin.ext
    match c with
    | ⟨0, _⟩ => exact hk
    | ⟨1, _⟩ => rfl
  · funext c; apply Fin.ext
    match c with
    | ⟨0, _⟩ => exact hk
    | ⟨1, _⟩ => rfl

end Vec

end Cert.Post

end
-- ==== Proof.Post.Payload.lean ====
/-
  What each value the kernel computes from its blocks is at an entry, as the row functions of `Row`.
-/
module

public import proofs.«01_k».proof.Proof.Post.Row
public import proofs.«01_k».proof.Proof.Gen.Kernel2Ideal.Frame

@[expose] public section

noncomputable section

namespace Cert.Post

open Idealize.ShloMosaic Cert.Kernel2Ideal Cert.Kernel2Ideal.Gen

/-- `inv_apply` at rows of 1024 entries, as the kernel writes it. -/
theorem inv1024 (x : FVec Ideal S256x1024 .f32) (i : Fin 256) (j : Fin 1024) :
    broadcastTo S256x1024 (rsqrt (addf (divf (shapeCast S256x1
        (multiReduction .add [1] S256 (mulf x x) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32))))
      broadcasts_S256x1_S256x1024 (ix2 i j) = inv 0x44800000#32 (fun k => x (ix2 i k)) :=
  inv_apply _ x _ _ _ i j

/-- `inv_apply` at rows of 512 entries, as the kernel writes it. -/
theorem inv512 (x : FVec Ideal S256x512 .f32) (i : Fin 256) (j : Fin 512) :
    broadcastTo S256x512 (rsqrt (addf (divf (shapeCast S256x1
        (multiReduction .add [1] S256 (mulf x x) 0x00000000#32 reduces_S256x512_S256 (.inl rfl) rfl) shapeCasts_S256_S256x1)
      (broadcast S256x1 (Scalar.ofBits (F := Ideal) .f32 0x44000000#32))) (broadcast S256x1 (Scalar.ofBits (F := Ideal) .f32 0x358637BD#32))))
      broadcasts_S256x1_S256x512 (ix2 i j) = inv 0x44000000#32 (fun k => x (ix2 i k)) :=
  inv_apply _ x _ _ _ i j

/-- The hidden row of the feed-forward part and its output, from the normalised row `n`. -/
def ffn (n : Fin 1024 → EReal) (wa wb : Fin 1024 → Fin 2816 → EReal) (wfo : Fin 2816 → Fin 1024 → EReal) : Fin 1024 → EReal :=
  dot (fun k => dot n wa k * Ideal.logistic (dot n wa k) * dot n wb k) wfo

/-- The feed-forward part of a block of normalised rows, as the kernel writes it. -/
theorem ffn_apply (n : FVec Ideal S256x1024 .bf16) (wa wb : FVec Ideal S1x1024x2816 .bf16) (wo : FVec Ideal S1x2816x1024 .bf16) (i : Fin 256) (j : Fin 1024) :
    k0_pay16 (F := Ideal) n wa wb wo (ix2 i j)
    = ffn (fun k => n (ix2 i k)) (fun k n => wa (ix3 0 k n)) (fun k n => wb (ix3 0 k n)) (fun k n => wo (ix3 0 k n)) j := by
  refine (mm_row dot_S256x2816_S2816x1024_S256x1024_1_0_0_1_n_n rfl _ wo _ i j).trans (congrArg (fun x => dot x _ j) (funext fun k => ?_))
  have ha := mm_row dot_S256x1024_S1024x2816_S256x2816_1_0_0_1_n_n rfl n wa shapeCasts_S1x1024x2816_S1024x2816 i k
  exact mul (mul ha (congrArg Ideal.logistic ha)) (mm_row dot_S256x1024_S1024x2816_S256x2816_1_0_0_1_n_n rfl n wb shapeCasts_S1x1024x2816_S1024x2816 i k)

theorem pay3_apply (v0 v3 v16) (i : Fin 256) (j : Fin 1024) : k0_pay3 (F := Ideal) v0 v3 v16 (ix2 i j)
    = rms 0x44800000#32 (dot (fun k => v0 (ix3 0 i k)) (fun k n => v3 (ix3 0 k n))) j * v16 (ix3 0 0 j) :=
  by
  have hl : ∀ j : Fin 1024, (matmul dot_S256x256_S256x1024_S256x1024_1_0_0_1_n_n none (truncf .bf16 (shapeCast S256x256 v0 shapeCasts_S1x256x256_S256x256) bitsLt_bf16_f32)
      (shapeCast S256x1024 v3 shapeCasts_S1x256x1024_S256x1024 : FVec Ideal S256x1024 .bf16) (constant S256x1024 .f32 0x00000000#32) : FVec Ideal S256x1024 .f32) (ix2 i j)
      = dot (fun k => v0 (ix3 0 i k)) (fun k n => v3 (ix3 0 k n)) j := fun j =>
    (mm_row dot_S256x256_S256x1024_S256x1024_1_0_0_1_n_n rfl _ _ _ i j).trans
      (congrArg (fun x => dot x (fun k n => v3 (ix3 0 k n)) j) (funext fun k => Attn.cast_drop1 v0 _ i k))
  exact mul (mul (hl j) ((inv1024 _ i j).trans (congrArg (inv 0x44800000#32) (funext hl)))) (gain_apply v16 _ _ i j)

theorem pay5_apply (v20 v23 v36) (i : Fin 256) (j : Fin 1024) : k0_pay5 (F := Ideal) (k0_pay4 v20 v23) v36 (ix2 i j)
    = rms 0x44800000#32 (dot (fun k => v20 (ix3 0 i k)) (fun k n => v23 (ix3 0 k n))) j * v36 (ix3 0 0 j) :=
  pay3_apply v20 v23 v36 i j

theorem pay6_apply (v40 v52) (i : Fin 256) (j : Fin 512) : k0_pay6 (F := Ideal) v40 v52 (ix2 i j)
    = rms 0x44000000#32 (fun k => v40 (ix2 i k)) j * v52 (ix3 0 0 j) :=
  by
  have hl := cast_same v40 shapeCasts_S256x512_S256x512
  refine mul (mul (congrFun hl _) ((inv512 _ i j).trans (congrArg (inv 0x44000000#32) (funext fun k => congrFun hl _)))) (gain_apply v52 _ _ i j)

theorem pay7_apply (v57 v69) (i : Fin 256) (j : Fin 512) : k0_pay7 (F := Ideal) v57 v69 (ix2 i j)
    = rms 0x44000000#32 (fun k => v57 (ix2 i k)) j * v69 (ix3 0 0 j) := pay6_apply v57 v69 i j

theorem pay8_apply (v73 v83 v86 v88) (i : Fin 256) (j : Fin 1024) : k0_pay8 (F := Ideal) v73 v83 v86 v88 (ix2 i j)
    = dot (fun k => v73 (ix2 i k)) (fun k n => v83 (ix3 0 k n)) j + dot (fun k => v86 (ix3 0 k i)) (fun k n => v88 (ix3 0 k n)) j :=
  add (mm_row dot_S256x512_S512x1024_S256x1024_1_0_0_1_n_n rfl v73 v83 _ i j)
    (mm_col dot_S512x256_S512x1024_S256x1024_0_0_1_1_n_n _ rfl v86 v88 _ _ i j)

theorem pay10_apply (v56 v74 v77 v79) (i : Fin 256) (j : Fin 1024) : k0_pay10 (F := Ideal) v56 v74 v77 v79 (ix2 i j)
    = rms 0x44800000#32 (fun j => k0_pay8 (F := Ideal) v56 v74 v77 v79 (ix2 i j)) j :=
  mul rfl (inv1024 (k0_pay8 v56 v74 v77 v79) i j)

theorem pay13_apply (v91 v109 v121) (i : Fin 256) (j : Fin 1024) : k0_pay13 (F := Ideal) v91 v109 v121 (ix2 i j)
    = v109 (ix2 i j) + rms 0x44800000#32 (fun j => v91 (ix2 i j)) j * v121 (ix3 0 0 j) :=
  add (congrFun (cast_same v109 shapeCasts_S256x1024_S256x1024) _) (mul (mul rfl (inv1024 v91 i j)) (gain_apply v121 _ _ i j))

theorem pay12_apply (v92 v56 v74 v77 v79 v104) (i : Fin 256) (j : Fin 1024) :
    k0_pay12 (F := Ideal) (k0_pay9 v92) (k0_pay10 v56 v74 v77 v79) (k0_pay11 v104) (ix2 i j)
    = v92 (ix2 i j) + rms 0x44800000#32 (fun j => k0_pay8 (F := Ideal) v56 v74 v77 v79 (ix2 i j)) j * v104 (ix3 0 0 j) :=
  add (congrFun (cast_same v92 shapeCasts_S256x1024_S256x1024) _) (mul (pay10_apply v56 v74 v77 v79 i j) (gain_apply v104 shapeCasts_S1x1x1024_S1x1024 broadcasts_S1x1024_S256x1024 i j))

theorem pay14_apply (v93 v103 v106 v136) (i : Fin 256) (j : Fin 1024) : k0_pay14 (F := Ideal) v93 v103 v106 v136 (ix2 i j)
    = rms 0x44800000#32 (fun j => k0_pay12 (F := Ideal) v93 v103 v106 (ix2 i j)) j * v136 (ix3 0 0 j) :=
  mul (mul rfl (inv1024 (k0_pay12 v93 v103 v106) i j)) (gain_apply v136 _ _ i j)

theorem pay15_apply (v91 v109 v121) (i : Fin 256) (j : Fin 1024) : k0_pay15 (F := Ideal) v91 v109 v121 (ix2 i j)
    = inv 0x44800000#32 (fun j => k0_pay13 (F := Ideal) v91 v109 v121 (ix2 i j)) :=
  inv1024 (k0_pay13 v91 v109 v121) i j

theorem pay16_apply (v140 v156 v161 v176) (i : Fin 256) (j : Fin 1024) : k0_pay16 (F := Ideal) v140 v156 v161 v176 (ix2 i j)
    = ffn (fun k => v140 (ix2 i k)) (fun k n => v156 (ix3 0 k n)) (fun k n => v161 (ix3 0 k n)) (fun k n => v176 (ix3 0 k n)) j :=
  ffn_apply v140 v156 v161 v176 i j

theorem pay17_apply (v125 v149 v151 v166 v171 v179) (i : Fin 256) (j : Fin 1024) :
    k0_pay17 (F := Ideal) v125 v149 v151 v166 v171 v179 (ix2 i j)
    = ffn (fun k => v125 (ix2 i k) * v149 (ix2 i k) * v151 (ix3 0 0 k)) (fun k n => v166 (ix3 0 k n)) (fun k n => v171 (ix3 0 k n))
        (fun k n => v179 (ix3 0 k n)) j :=
  (ffn_apply _ v166 v171 v179 i j).trans
    (congrArg (fun x => ffn x _ _ _ j) (funext fun k => mul rfl (gain_apply v151 _ _ i k)))

theorem pay20_apply (v125 v181 v207) (i : Fin 256) (j : Fin 1024) : k0_pay20 (F := Ideal) v125 v181 v207 (ix2 i j)
    = v125 (ix2 i j) + rms 0x44800000#32 (fun j => v181 (ix2 i j)) j * v207 (ix3 0 0 j) :=
  add rfl (mul (mul rfl (inv1024 v181 i j)) (gain_apply v207 _ _ i j))

theorem pay19_apply (v108 v140 v156 v161 v176 v192) (i : Fin 256) (j : Fin 1024) :
    k0_pay19 (F := Ideal) v108 (k0_pay16 v140 v156 v161 v176) (k0_pay18 v140 v156 v161 v176) v192 (ix2 i j)
    = v108 (ix2 i j) + rms 0x44800000#32 (fun j => k0_pay16 (F := Ideal) v140 v156 v161 v176 (ix2 i j)) j * v192 (ix3 0 0 j) :=
  pay20_apply v108 (k0_pay16 v140 v156 v161 v176) v192 i j

theorem pay2_apply (v39 v211 v238) (i : Fin 256) (j : Fin 1024) : k0_pay2 (F := Ideal) v39 v211 v238 (ix2 i j)
    = v211 (ix2 i j) + Ideal.logistic (dot (rms 0x44800000#32 (fun j => v211 (ix2 i j))) (fun k n => v238 (ix3 0 k n)) j) * v39 (ix2 i j) :=
  add rfl (mul (congrArg Ideal.logistic ((mm_row dot_S256x1024_S1024x1024_S256x1024_1_0_0_1_n_n rfl _ v238 _ i j).trans
    (congrArg (fun x => dot x _ j) (funext fun k => mul rfl (inv1024 v211 i k))))) rfl)

theorem pay1_apply (v19 v108 v178 v182 v192 v223) (i : Fin 256) (j : Fin 1024) :
    k0_pay1 (F := Ideal) v19 (k0_pay19 v108 v178 v182 v192) (k0_pay21 v108 v178 v182 v192) (k0_pay22 v223) (ix2 i j)
    = k0_pay19 (F := Ideal) v108 v178 v182 v192 (ix2 i j)
      + Ideal.logistic (dot (rms 0x44800000#32 (fun j => k0_pay19 (F := Ideal) v108 v178 v182 v192 (ix2 i j))) (fun k n => v223 (ix3 0 k n)) j) * v19 (ix2 i j) :=
  pay2_apply v19 (k0_pay19 v108 v178 v182 v192) v223 i j

end Cert.Post

end
-- ==== Proof.Post.Kernel.lean ====
/-
  A grid point's block of the result: every row is `Token.result` of the row's token.

  The body takes its 512 rows in two halves. `Lower` and `Upper` read each half's values in the body's order, from the loads
  to the store; `out_apply` puts the two stores together.
-/
module

public import proofs.«01_k».proof.Proof.Gen.Kernel2Ideal.Frame
public import proofs.«01_k».proof.Proof.Post.Payload
public import Idealize.ShloMosaic.Lib.Pipeline.ValueKit.Tiles

@[expose] public section

set_option maxRecDepth 16384

noncomputable section

namespace Cert.Post

open Idealize.ShloMosaic Cert.Kernel2Ideal Cert.Kernel2Ideal.Gen

/-! ## Loads -/

section Load

variable {e : EltTy}

theorem ld2 {A B a b o p : ℕ} (X : Vec Ideal ⟨2, ![A, B]⟩ e) (inb) (i : Fin a) (j : Fin b) (i' : Fin A) (j' : Fin B)
    (hi : i'.val = o + i.val) (hj : j'.val = p + j.val) :
    View.ld X (Rect.unit (s := ⟨2, ![A, B]⟩) ![o, p] (⟨2, ![a, b]⟩ : Shape).size inb) (ix2 i j) = X (ix2 i' j') :=
  View.ld_unit_apply_of X _ _ inb (ix2 i j) (ix2 i' j') fun c => match c with | ⟨0, _⟩ => hi | ⟨1, _⟩ => hj

theorem ld3 {A B C a b c o p r : ℕ} (X : Vec Ideal ⟨3, ![A, B, C]⟩ e) (inb) (i : Fin a) (j : Fin b) (k : Fin c) (i' : Fin A) (j' : Fin B) (k' : Fin C)
    (hi : i'.val = o + i.val) (hj : j'.val = p + j.val) (hk : k'.val = r + k.val) :
    View.ld X (Rect.unit (s := ⟨3, ![A, B, C]⟩) ![o, p, r] (⟨3, ![a, b, c]⟩ : Shape).size inb) (ix3 i j k) = X (ix3 i' j' k') :=
  View.ld_unit_apply_of X _ _ inb (ix3 i j k) (ix3 i' j' k') fun c => match c with | ⟨0, _⟩ => hi | ⟨1, _⟩ => hj | ⟨2, _⟩ => hk

/-- A load of a whole block. -/
theorem ldw {A B C : ℕ} (X : Vec Ideal ⟨3, ![A, B, C]⟩ e) (inb) (i : Fin A) (j : Fin B) (k : Fin C) :
    View.ld X (Rect.unit (s := ⟨3, ![A, B, C]⟩) ![0, 0, 0] (⟨3, ![A, B, C]⟩ : Shape).size inb) (ix3 i j k) = X (ix3 i j k) :=
  ld3 X inb i j k i j k (Nat.zero_add _).symm (Nat.zero_add _).symm (Nat.zero_add _).symm

end Load

theorem ffn_congr {n n' : Fin 1024 → EReal} {wa wa' wb wb' : Fin 1024 → Fin 2816 → EReal} {wo wo' : Fin 2816 → Fin 1024 → EReal}
    (h : n = n') (ha : wa = wa') (hb : wb = wb') (ho : wo = wo') (j : Fin 1024) : ffn n wa wb wo j = ffn n' wa' wb' wo' j := by
  rw [h, ha, hb, ho]

/-! ## The blocks of a grid point -/

/-- A grid point's input blocks, in the order of the call's operands. -/
structure Blocks where
  x0 : Vec Ideal S512x1024 .f32
  x1 : Vec Ideal S512x512 .f32
  x2 : Vec Ideal S1x512x512 .bf16
  x3 : Vec Ideal S1x512x256 .f32
  x4 : Vec Ideal S1x1x512 .f32
  x5 : Vec Ideal S1x1024x1024 .bf16
  x6 : Vec Ideal S1x1x1024 .f32
  x7 : Vec Ideal S1x1x1024 .f32
  x8 : Vec Ideal S1x1024x2816 .bf16
  x9 : Vec Ideal S1x1024x2816 .bf16
  x10 : Vec Ideal S1x2816x1024 .bf16
  x11 : Vec Ideal S1x1x1024 .f32
  x12 : Vec Ideal S1x256x1024 .bf16
  x13 : Vec Ideal S1x1x1024 .f32
  x14 : Vec Ideal S1x1024x1024 .bf16

namespace Blocks

variable (B : Blocks)

/-- The layer's weights. -/
abbrev W : Weights where
  gatt j := B.x4 (ix3 0 0 j)
  wout k n := B.x5 (ix3 0 k n)
  gpost j := B.x6 (ix3 0 0 j)
  gpre j := B.x7 (ix3 0 0 j)
  wa k n := B.x8 (ix3 0 k n)
  wb k n := B.x9 (ix3 0 k n)
  wfo k n := B.x10 (ix3 0 k n)
  gfpost j := B.x11 (ix3 0 0 j)
  wple k n := B.x12 (ix3 0 k n)
  gple j := B.x13 (ix3 0 0 j)
  wgate k n := B.x14 (ix3 0 k n)

/-- The token of a row. -/
abbrev row (q : Fin 512) : Token where
  h j := B.x0 (ix2 q j)
  att j := B.x1 (ix2 q j)
  gm k := B.x2 (ix3 0 k q)
  p k := B.x3 (ix3 0 q k)

/-- The block of the result. -/
abbrev out : Vec Ideal S512x1024 .f32 := out0_15 (F := Ideal) B.x0 B.x1 B.x2 B.x3 B.x4 B.x5 B.x6 B.x7 B.x8 B.x9 B.x10 B.x11 B.x12 B.x13 B.x14

variable (q : Fin 512) (i : Fin 256) (j : Fin 1024)

/-! ## Rows 0 to 255 -/

section Lower

variable (hq : q.val = 0 + i.val)

include hq

theorem lower_y : k0_pay8 (F := Ideal) (k0_pay6 (View.ld B.x1 r0_4) (View.ld B.x4 r0_5)) (View.ld B.x5 r0_7) (View.ld B.x2 r0_8) (View.ld B.x5 r0_9) (ix2 i j)
    = (B.row q).y B.W j :=
  (pay8_apply _ (View.ld B.x5 r0_7) (View.ld B.x2 r0_8) (View.ld B.x5 r0_9) i j).trans
    ((add (congrFun (congrArg₂ dot
        (funext fun k => (pay6_apply (View.ld B.x1 r0_4) (View.ld B.x4 r0_5) i k).trans
          (mul (congrArg (fun x => rms _ x k) (funext fun k => ld2 B.x1 _ i k q k hq (by omega))) (ldw B.x4 _ 0 0 k)))
        (funext₂ fun k n => ld3 B.x5 _ 0 k n 0 ⟨k.val, by omega⟩ n rfl (by dsimp; omega) (by omega))) j)
      (congrFun (congrArg₂ dot (funext fun k => ld3 B.x2 _ 0 k i 0 k q rfl (by omega) hq)
        (funext₂ fun k n => ld3 B.x5 _ 0 k n 0 ⟨512 + k.val, by omega⟩ n rfl rfl (by omega))) j)).trans ((B.row q).y_eq B.W j))

theorem lower_h1 : k0_pay27 (F := Ideal) B.x0 B.x1 B.x2 B.x3 B.x4 B.x5 B.x6 B.x7 B.x8 B.x9 B.x10 B.x11 B.x12 B.x13 B.x14 (ix2 i j) = (B.row q).h1 B.W j :=
  (pay12_apply (View.ld B.x0 r0_11) _ _ _ _ (View.ld B.x6 r0_2) i j).trans
    (add (ld2 B.x0 _ i j q j hq (by omega)) (mul (congrArg (fun x => rms _ x j) (funext fun j => B.lower_y q i j hq)) (ldw B.x6 _ 0 0 j)))

theorem lower_hn : k0_pay29 (F := Ideal) B.x0 B.x1 B.x2 B.x3 B.x4 B.x5 B.x6 B.x7 B.x8 B.x9 B.x10 B.x11 B.x12 B.x13 B.x14 (ix2 i j) = (B.row q).hn B.W j :=
  (pay14_apply _ _ _ (View.ld B.x7 r0_2) i j).trans
    (mul (congrArg (fun x => rms _ x j) (funext fun j => B.lower_h1 q i j hq)) (ldw B.x7 _ 0 0 j))

theorem lower_f : k0_pay30 (F := Ideal) B.x0 B.x1 B.x2 B.x3 B.x4 B.x5 B.x6 B.x7 B.x8 B.x9 B.x10 B.x11 B.x12 B.x13 B.x14 (ix2 i j) = (B.row q).f B.W j :=
  (pay16_apply _ (View.ld B.x8 r0_13) (View.ld B.x9 r0_13) (View.ld B.x10 r0_14) i j).trans
    (ffn_congr (funext fun k => B.lower_hn q i k hq) (funext₂ fun k n => ldw B.x8 _ 0 k n) (funext₂ fun k n => ldw B.x9 _ 0 k n) (funext₂ fun k n => ldw B.x10 _ 0 k n) j)

theorem lower_h2 : k0_pay19 (F := Ideal) (k0_pay27 B.x0 B.x1 B.x2 B.x3 B.x4 B.x5 B.x6 B.x7 B.x8 B.x9 B.x10 B.x11 B.x12 B.x13 B.x14) (k0_pay30 B.x0 B.x1 B.x2 B.x3 B.x4 B.x5 B.x6 B.x7 B.x8 B.x9 B.x10 B.x11 B.x12 B.x13 B.x14) (k0_pay31 B.x0 B.x1 B.x2 B.x3 B.x4 B.x5 B.x6 B.x7 B.x8 B.x9 B.x10 B.x11 B.x12 B.x13 B.x14) (View.ld B.x11 r0_2) (ix2 i j) = (B.row q).h2 B.W j :=
  (pay19_apply _ _ _ _ _ (View.ld B.x11 r0_2) i j).trans
    (add (B.lower_h1 q i j hq) (mul (congrArg (fun x => rms _ x j) (funext fun j => B.lower_f q i j hq)) (ldw B.x11 _ 0 0 j)))

theorem lower_e : k0_pay3 (F := Ideal) (View.ld B.x3 r0_0) (View.ld B.x12 r0_1) (View.ld B.x13 r0_2) (ix2 i j) = (B.row q).e B.W j :=
  (pay3_apply (View.ld B.x3 r0_0) (View.ld B.x12 r0_1) (View.ld B.x13 r0_2) i j).trans
    (mul (congrArg (fun x => rms _ x j) (congrArg₂ dot (funext fun k => ld3 B.x3 _ 0 i k 0 q k rfl hq (by omega)) (funext₂ fun k n => ldw B.x12 _ 0 k n)))
      (ldw B.x13 _ 0 0 j))

/-- The lower half's store. -/
theorem lower_result : k0_pay1 (F := Ideal) (k0_pay3 (View.ld B.x3 r0_0) (View.ld B.x12 r0_1) (View.ld B.x13 r0_2))
      (k0_pay19 (k0_pay27 B.x0 B.x1 B.x2 B.x3 B.x4 B.x5 B.x6 B.x7 B.x8 B.x9 B.x10 B.x11 B.x12 B.x13 B.x14) (k0_pay30 B.x0 B.x1 B.x2 B.x3 B.x4 B.x5 B.x6 B.x7 B.x8 B.x9 B.x10 B.x11 B.x12 B.x13 B.x14) (k0_pay31 B.x0 B.x1 B.x2 B.x3 B.x4 B.x5 B.x6 B.x7 B.x8 B.x9 B.x10 B.x11 B.x12 B.x13 B.x14) (View.ld B.x11 r0_2))
      (k0_pay21 (k0_pay27 B.x0 B.x1 B.x2 B.x3 B.x4 B.x5 B.x6 B.x7 B.x8 B.x9 B.x10 B.x11 B.x12 B.x13 B.x14) (k0_pay30 B.x0 B.x1 B.x2 B.x3 B.x4 B.x5 B.x6 B.x7 B.x8 B.x9 B.x10 B.x11 B.x12 B.x13 B.x14) (k0_pay31 B.x0 B.x1 B.x2 B.x3 B.x4 B.x5 B.x6 B.x7 B.x8 B.x9 B.x10 B.x11 B.x12 B.x13 B.x14) (View.ld B.x11 r0_2)) (k0_pay22 (View.ld B.x14 r0_15)) (ix2 i j)
    = (B.row q).result B.W j :=
  (pay1_apply _ _ _ _ _ (View.ld B.x14 r0_15) i j).trans
    (add (B.lower_h2 q i j hq) (mul (congrArg Ideal.logistic (congrFun (congrArg₂ dot
      (congrArg (rms _) (funext fun j => B.lower_h2 q i j hq)) (funext₂ fun k n => ldw B.x14 _ 0 k n)) j)) (B.lower_e q i j hq)))

end Lower

/-! ## Rows 256 to 511 -/

section Upper

variable (hq : q.val = 256 + i.val)

include hq

theorem upper_y : k0_pay23 (F := Ideal) B.x0 B.x1 B.x2 B.x3 B.x4 B.x5 B.x6 B.x7 B.x8 B.x9 B.x10 B.x11 B.x12 B.x13 B.x14 (ix2 i j) = (B.row q).y B.W j :=
  (pay8_apply _ (View.ld B.x5 r0_7) (View.ld B.x2 r0_10) (View.ld B.x5 r0_9) i j).trans
    ((add (congrFun (congrArg₂ dot
        (funext fun k => (pay7_apply (View.ld B.x1 r0_6) (View.ld B.x4 r0_5) i k).trans
          (mul (congrArg (fun x => rms _ x k) (funext fun k => ld2 B.x1 _ i k q k hq (by omega))) (ldw B.x4 _ 0 0 k)))
        (funext₂ fun k n => ld3 B.x5 _ 0 k n 0 ⟨k.val, by omega⟩ n rfl (by dsimp; omega) (by omega))) j)
      (congrFun (congrArg₂ dot (funext fun k => ld3 B.x2 _ 0 k i 0 k q rfl (by omega) hq)
        (funext₂ fun k n => ld3 B.x5 _ 0 k n 0 ⟨512 + k.val, by omega⟩ n rfl rfl (by omega))) j)).trans ((B.row q).y_eq B.W j))

theorem upper_h1 : k0_pay28 (F := Ideal) B.x0 B.x1 B.x2 B.x3 B.x4 B.x5 B.x6 B.x7 B.x8 B.x9 B.x10 B.x11 B.x12 B.x13 B.x14 (ix2 i j) = (B.row q).h1 B.W j :=
  (pay13_apply _ (View.ld B.x0 r0_12) (View.ld B.x6 r0_2) i j).trans
    (add (ld2 B.x0 _ i j q j hq (by omega)) (mul (congrArg (fun x => rms _ x j) (funext fun j => B.upper_y q i j hq)) (ldw B.x6 _ 0 0 j)))

theorem upper_f : k0_pay17 (F := Ideal) (k0_pay28 B.x0 B.x1 B.x2 B.x3 B.x4 B.x5 B.x6 B.x7 B.x8 B.x9 B.x10 B.x11 B.x12 B.x13 B.x14) (k0_pay15 (k0_pay23 B.x0 B.x1 B.x2 B.x3 B.x4 B.x5 B.x6 B.x7 B.x8 B.x9 B.x10 B.x11 B.x12 B.x13 B.x14) (View.ld B.x0 r0_12) (View.ld B.x6 r0_2)) (View.ld B.x7 r0_2)
      (View.ld B.x8 r0_13) (View.ld B.x9 r0_13) (View.ld B.x10 r0_14) (ix2 i j) = (B.row q).f B.W j :=
  (pay17_apply _ _ (View.ld B.x7 r0_2) (View.ld B.x8 r0_13) (View.ld B.x9 r0_13) (View.ld B.x10 r0_14) i j).trans
    (ffn_congr (funext fun k => mul (mul (B.upper_h1 q i k hq)
        ((pay15_apply _ (View.ld B.x0 r0_12) (View.ld B.x6 r0_2) i k).trans (congrArg (inv _) (funext fun j => B.upper_h1 q i j hq)))) (ldw B.x7 _ 0 0 k))
      (funext₂ fun k n => ldw B.x8 _ 0 k n) (funext₂ fun k n => ldw B.x9 _ 0 k n) (funext₂ fun k n => ldw B.x10 _ 0 k n) j)

theorem upper_h2 : k0_pay20 (F := Ideal) (k0_pay28 B.x0 B.x1 B.x2 B.x3 B.x4 B.x5 B.x6 B.x7 B.x8 B.x9 B.x10 B.x11 B.x12 B.x13 B.x14)
      (k0_pay17 (k0_pay28 B.x0 B.x1 B.x2 B.x3 B.x4 B.x5 B.x6 B.x7 B.x8 B.x9 B.x10 B.x11 B.x12 B.x13 B.x14) (k0_pay15 (k0_pay23 B.x0 B.x1 B.x2 B.x3 B.x4 B.x5 B.x6 B.x7 B.x8 B.x9 B.x10 B.x11 B.x12 B.x13 B.x14) (View.ld B.x0 r0_12) (View.ld B.x6 r0_2)) (View.ld B.x7 r0_2)
        (View.ld B.x8 r0_13) (View.ld B.x9 r0_13) (View.ld B.x10 r0_14)) (View.ld B.x11 r0_2) (ix2 i j) = (B.row q).h2 B.W j :=
  (pay20_apply _ _ (View.ld B.x11 r0_2) i j).trans
    (add (B.upper_h1 q i j hq) (mul (congrArg (fun x => rms _ x j) (funext fun j => B.upper_f q i j hq)) (ldw B.x11 _ 0 0 j)))

theorem upper_e : k0_pay5 (F := Ideal) (k0_pay4 (View.ld B.x3 r0_3) (View.ld B.x12 r0_1)) (View.ld B.x13 r0_2) (ix2 i j) = (B.row q).e B.W j :=
  (pay5_apply (View.ld B.x3 r0_3) (View.ld B.x12 r0_1) (View.ld B.x13 r0_2) i j).trans
    (mul (congrArg (fun x => rms _ x j) (congrArg₂ dot (funext fun k => ld3 B.x3 _ 0 i k 0 q k rfl hq (by omega)) (funext₂ fun k n => ldw B.x12 _ 0 k n)))
      (ldw B.x13 _ 0 0 j))

/-- The upper half's store. -/
theorem upper_result : k0_pay2 (F := Ideal) (k0_pay5 (k0_pay4 (View.ld B.x3 r0_3) (View.ld B.x12 r0_1)) (View.ld B.x13 r0_2))
      (k0_pay20 (k0_pay28 B.x0 B.x1 B.x2 B.x3 B.x4 B.x5 B.x6 B.x7 B.x8 B.x9 B.x10 B.x11 B.x12 B.x13 B.x14) (k0_pay17 (k0_pay28 B.x0 B.x1 B.x2 B.x3 B.x4 B.x5 B.x6 B.x7 B.x8 B.x9 B.x10 B.x11 B.x12 B.x13 B.x14) (k0_pay15 (k0_pay23 B.x0 B.x1 B.x2 B.x3 B.x4 B.x5 B.x6 B.x7 B.x8 B.x9 B.x10 B.x11 B.x12 B.x13 B.x14) (View.ld B.x0 r0_12) (View.ld B.x6 r0_2)) (View.ld B.x7 r0_2)
        (View.ld B.x8 r0_13) (View.ld B.x9 r0_13) (View.ld B.x10 r0_14)) (View.ld B.x11 r0_2)) (View.ld B.x14 r0_15) (ix2 i j)
    = (B.row q).result B.W j :=
  (pay2_apply _ _ (View.ld B.x14 r0_15) i j).trans
    (add (B.upper_h2 q i j hq) (mul (congrArg Ideal.logistic (congrFun (congrArg₂ dot
      (congrArg (rms _) (funext fun j => B.upper_h2 q i j hq)) (funext₂ fun k n => ldw B.x14 _ 0 k n)) j)) (B.upper_e q i j hq)))

end Upper

/-- A grid point's block of the result, row by row. -/
theorem out_apply : B.out (ix2 q j) = (B.row q).result B.W j := by
  unfold out out0_15
  by_cases hq : q.val < 256
  · refine (View.canon_cons_of_not_mem _ _ ?_).trans ?_
    · intro hm
      have h : 256 ≤ q.val := ((Rect.mem_set_unit (inb := inb_S512x1024_S256x1024_256_0)).mp hm 0).1
      omega
    · have e : r0_11.emb (ix2 (⟨q.val, hq⟩ : Fin 256) j) = ix2 q j := by
        funext a; apply Fin.ext
        match a with
        | ⟨0, _⟩ => show 0 + 1 * q.val = q.val; omega
        | ⟨1, _⟩ => show 0 + 1 * j.val = j.val; omega
      rw [← e]
      exact (View.canon_cons_emb _ _ _ _).trans (B.lower_result q ⟨q.val, hq⟩ j (by dsimp; omega))
  · have e : r0_12.emb (ix2 (⟨q.val - 256, by omega⟩ : Fin 256) j) = ix2 q j := by
      funext a; apply Fin.ext
      match a with
      | ⟨0, _⟩ => show 256 + 1 * (q.val - 256) = q.val; omega
      | ⟨1, _⟩ => show 0 + 1 * j.val = j.val; omega
    rw [← e]
    exact (View.canon_cons_emb _ _ _ _).trans (B.upper_result q ⟨q.val - 256, by omega⟩ j (by dsimp; omega))

end Blocks

end Cert.Post

end
-- ==== Proof.Post.Reference.lean ====
/-
  The reference of the second call, read at an entry: the function of a token's rows that `Row` states.
-/
module

public import proofs.«01_k».proof.Proof.Post.Row
public import proofs.«01_k».proof.Proof.Gen.Reference2Ideal.Read
public import Idealize.ShloMosaic.Lib.Pipeline.Value

@[expose] public section

noncomputable section

namespace Cert.Post

open Idealize.ShloMosaic Cert.Reference2Ideal Cert.Reference2Ideal.Read

variable (x0 : Vec Ideal S8x4096x1024 .f32) (x1 x2 : Vec Ideal S8x4096x512 .f32) (x3 : Vec Ideal S4x8x4096x256 .f32) (x4 : Vec Ideal S4x1024 .f32) (x5 : Vec Ideal S4x1024x1024 .f32) (x6 x7 : Vec Ideal S4x1024 .f32) (x8 : Vec Ideal S4x1024x5632 .f32) (x9 : Vec Ideal S4x2816x1024 .f32) (x10 : Vec Ideal S4x1024 .f32) (x11 : Vec Ideal S4x256x1024 .f32) (x12 : Vec Ideal S4x1024 .f32) (x13 : Vec Ideal S4x1024x1024 .f32)
  (b : Fin 8) (s : Fin 4096)

/-- The layer's gains and matrices in the arguments, which stack four layers. -/
abbrev wts : Weights where
  gatt j := x4 (ix2 3 ⟨j.val, by omega⟩)
  wout k n := x5 (ix3 3 k n)
  gpost j := x6 (ix2 3 j)
  gpre j := x7 (ix2 3 j)
  wa k n := x8 (ix3 3 k ⟨n.val, by omega⟩)
  wb k n := x8 (ix3 3 k ⟨2816 + n.val, by omega⟩)
  wfo k n := x9 (ix3 3 k n)
  gfpost j := x10 (ix2 3 j)
  wple k n := x11 (ix3 3 k n)
  gple j := x12 (ix2 3 j)
  wgate k n := x13 (ix3 3 k n)

/-- A token's rows in the arguments. -/
abbrev tok : Token where
  h j := x0 (ix3 b s j)
  att j := x1 (ix3 b s j)
  gm j := x2 (ix3 b s j)
  p j := x3 (ix4 3 b s j)

theorem inv_of {n : BitVec 32} {N : ℕ} (f g : Fin N → EReal) (hg : ∀ k, g k = f k * f k) :
    Ideal.rsqrt (Ideal.div (Ideal.ofBits .f32 0x00000000#32 + ∑ k, g k) (Ideal.ofBits .f32 n) + Ideal.ofBits .f32 0x358637BD#32) = inv n f := by
  rw [zero_eq, zero_add, Finset.sum_congr rfl fun k _ => hg k]
  rfl

theorem one_eq : Ideal.ofBits .f32 0x3F800000#32 = 1 := by
  simp [Ideal.ofBits, Ideal.ieee]
  rw [← EReal.coe_mul]
  norm_num

/-- The sigmoid as the reference writes it. -/
theorem sigmoid_of (x : EReal) :
    Ideal.div (Ideal.ofBits .f32 0x3F800000#32) (Ideal.ofBits .f32 0x3F800000#32 + Ideal.exp (-x)) = Ideal.logistic x := by
  rw [one_eq]
  rfl

/-! ## The parts of the stages -/

/-- The attention's output over its root mean square. -/
theorem inv_v12 (j : Fin 512) : val_main_v12 (F := Ideal) x1 (ix3 b s j) = inv 0x44000000#32 (fun k : Fin 512 => x1 (ix3 b s k)) := by
  rw [val_main_v12_apply, val_main_v11_apply, val_main_v10_apply, val_main_v8_apply, val_main_v6_apply, val_main_v5_apply, val_main_v7_apply, val_main_v9_apply,
    val_main_cst_apply, val_main_cst_0_apply, val_main_cst_1_apply, Ideal.hostUnary_rsqrt_def, Ideal.addf_def, Ideal.hostDivf_def]
  refine inv_of _ _ fun k => ?_
  rw [val_main_v4_apply]
  exact congrArg (fun i => x1 i * x1 i) (funext fun a => match a with | ⟨0, _⟩ => rfl | ⟨1, _⟩ => rfl | ⟨2, _⟩ => rfl)

theorem gain_v15 (j : Fin 512) : val_main_v15 (F := Ideal) x4 (ix3 b s j) = x4 (ix2 3 ⟨j.val, by omega⟩) := by
  rw [val_main_v15_apply, val_main_v14_apply, val_main_v2_apply, val_main_v1_apply, val_main_v0_apply]
  exact congrArg x4 (funext fun a => Fin.ext (match a with | ⟨0, _⟩ => rfl | ⟨1, _⟩ => show j.val % 1024 = j.val by omega))

theorem gain_v34 (j : Fin 1024) : val_main_v34 (F := Ideal) x6 (ix3 b s j) = x6 (ix2 3 ⟨j.val, by omega⟩) := by
  rw [val_main_v34_apply, val_main_v33_apply, val_main_v22_apply, val_main_v21_apply]
  exact congrArg x6 (funext fun a => Fin.ext (match a with | ⟨0, _⟩ => rfl | ⟨1, _⟩ => show j.val % 1024 = j.val by omega))

theorem gain_v50 (j : Fin 1024) : val_main_v50 (F := Ideal) x7 (ix3 b s j) = x7 (ix2 3 ⟨j.val, by omega⟩) := by
  rw [val_main_v50_apply, val_main_v49_apply, val_main_v38_apply, val_main_v37_apply]
  exact congrArg x7 (funext fun a => Fin.ext (match a with | ⟨0, _⟩ => rfl | ⟨1, _⟩ => show j.val % 1024 = j.val by omega))

theorem gain_v75 (j : Fin 1024) : val_main_v75 (F := Ideal) x10 (ix3 b s j) = x10 (ix2 3 ⟨j.val, by omega⟩) := by
  rw [val_main_v75_apply, val_main_v74_apply, val_main_v63_apply, val_main_v62_apply]
  exact congrArg x10 (funext fun a => Fin.ext (match a with | ⟨0, _⟩ => rfl | ⟨1, _⟩ => show j.val % 1024 = j.val by omega))

theorem gain_v96 (j : Fin 1024) : val_main_v96 (F := Ideal) x12 (ix3 b s j) = x12 (ix2 3 ⟨j.val, by omega⟩) := by
  rw [val_main_v96_apply, val_main_v95_apply, val_main_v84_apply, val_main_v83_apply]
  exact congrArg x12 (funext fun a => Fin.ext (match a with | ⟨0, _⟩ => rfl | ⟨1, _⟩ => show j.val % 1024 = j.val by omega))

theorem mat_v19 (k : Fin 1024) (n : Fin 1024) : val_main_v19 (F := Ideal) x5 (ix2 k n) = x5 (ix3 3 k n) := by
  rw [val_main_v19_apply, val_main_v18_apply]
  exact congrArg x5 (funext fun a => Fin.ext (match a with
    | ⟨0, _⟩ => rfl
    | ⟨1, _⟩ => show (k.val * 1024 + n.val) / 1024 % 1024 = k.val by omega
    | ⟨2, _⟩ => show (k.val * 1024 + n.val) % 1024 = n.val by omega))

theorem mat_v53 (k : Fin 1024) (n : Fin 5632) : val_main_v53 (F := Ideal) x8 (ix2 k n) = x8 (ix3 3 k n) := by
  rw [val_main_v53_apply, val_main_v52_apply]
  exact congrArg x8 (funext fun a => Fin.ext (match a with
    | ⟨0, _⟩ => rfl
    | ⟨1, _⟩ => show (k.val * 5632 + n.val) / 5632 % 1024 = k.val by omega
    | ⟨2, _⟩ => show (k.val * 5632 + n.val) % 5632 = n.val by omega))

theorem mat_v60 (k : Fin 2816) (n : Fin 1024) : val_main_v60 (F := Ideal) x9 (ix2 k n) = x9 (ix3 3 k n) := by
  rw [val_main_v60_apply, val_main_v59_apply]
  exact congrArg x9 (funext fun a => Fin.ext (match a with
    | ⟨0, _⟩ => rfl
    | ⟨1, _⟩ => show (k.val * 1024 + n.val) / 1024 % 2816 = k.val by omega
    | ⟨2, _⟩ => show (k.val * 1024 + n.val) % 1024 = n.val by omega))

theorem mat_v81 (k : Fin 256) (n : Fin 1024) : val_main_v81 (F := Ideal) x11 (ix2 k n) = x11 (ix3 3 k n) := by
  rw [val_main_v81_apply, val_main_v80_apply]
  exact congrArg x11 (funext fun a => Fin.ext (match a with
    | ⟨0, _⟩ => rfl
    | ⟨1, _⟩ => show (k.val * 1024 + n.val) / 1024 % 256 = k.val by omega
    | ⟨2, _⟩ => show (k.val * 1024 + n.val) % 1024 = n.val by omega))

theorem mat_v109 (k : Fin 1024) (n : Fin 1024) : val_main_v109 (F := Ideal) x13 (ix2 k n) = x13 (ix3 3 k n) := by
  rw [val_main_v109_apply, val_main_v108_apply]
  exact congrArg x13 (funext fun a => Fin.ext (match a with
    | ⟨0, _⟩ => rfl
    | ⟨1, _⟩ => show (k.val * 1024 + n.val) / 1024 % 1024 = k.val by omega
    | ⟨2, _⟩ => show (k.val * 1024 + n.val) % 1024 = n.val by omega))

theorem ple_v79 (k : Fin 256) : val_main_v79 (F := Ideal) x3 (ix3 b s k) = x3 (ix4 3 b s k) := by
  rw [val_main_v79_apply, val_main_v78_apply]
  exact congrArg x3 (funext fun a => Fin.ext (match a with
    | ⟨0, _⟩ => rfl
    | ⟨1, _⟩ => show ((b.val * 4096 + s.val) * 256 + k.val) / 1048576 % 8 = b.val by omega
    | ⟨2, _⟩ => show ((b.val * 4096 + s.val) * 256 + k.val) / 256 % 4096 = s.val by omega
    | ⟨3, _⟩ => show ((b.val * 4096 + s.val) * 256 + k.val) % 256 = k.val by omega))

theorem dot_v20 (j : Fin 1024) : val_main_v20 (F := Ideal) x1 x2 x4 x5 (ix3 b s j)
    = dot (fun k : Fin 1024 => val_main_v17 (F := Ideal) x1 x2 x4 (ix3 b s k)) (fun k n => val_main_v19 (F := Ideal) x5 (ix2 k n)) j := by
  rw [val_main_v20_apply]
  exact Finset.sum_congr rfl fun k _ => mul (congrArg (val_main_v17 (F := Ideal) x1 x2 x4) (funext fun a => match a with | ⟨0, _⟩ => rfl | ⟨1, _⟩ => rfl | ⟨2, _⟩ => rfl))
    (congrArg (val_main_v19 (F := Ideal) x5) (funext fun a => match a with | ⟨0, _⟩ => rfl | ⟨1, _⟩ => rfl))

theorem dot_v54 (j : Fin 5632) : val_main_v54 (F := Ideal) x0 x1 x2 x4 x5 x6 x7 x8 (ix3 b s j)
    = dot (fun k : Fin 1024 => val_main_v51 (F := Ideal) x0 x1 x2 x4 x5 x6 x7 (ix3 b s k)) (fun k n => val_main_v53 (F := Ideal) x8 (ix2 k n)) j := by
  rw [val_main_v54_apply]
  exact Finset.sum_congr rfl fun k _ => mul (congrArg (val_main_v51 (F := Ideal) x0 x1 x2 x4 x5 x6 x7) (funext fun a => match a with | ⟨0, _⟩ => rfl | ⟨1, _⟩ => rfl | ⟨2, _⟩ => rfl))
    (congrArg (val_main_v53 (F := Ideal) x8) (funext fun a => match a with | ⟨0, _⟩ => rfl | ⟨1, _⟩ => rfl))

theorem dot_v61 (j : Fin 1024) : val_main_v61 (F := Ideal) x0 x1 x2 x4 x5 x6 x7 x8 x9 (ix3 b s j)
    = dot (fun k : Fin 2816 => val_main_v58 (F := Ideal) x0 x1 x2 x4 x5 x6 x7 x8 (ix3 b s k)) (fun k n => val_main_v60 (F := Ideal) x9 (ix2 k n)) j := by
  rw [val_main_v61_apply]
  exact Finset.sum_congr rfl fun k _ => mul (congrArg (val_main_v58 (F := Ideal) x0 x1 x2 x4 x5 x6 x7 x8) (funext fun a => match a with | ⟨0, _⟩ => rfl | ⟨1, _⟩ => rfl | ⟨2, _⟩ => rfl))
    (congrArg (val_main_v60 (F := Ideal) x9) (funext fun a => match a with | ⟨0, _⟩ => rfl | ⟨1, _⟩ => rfl))

theorem dot_v82 (j : Fin 1024) : val_main_v82 (F := Ideal) x3 x11 (ix3 b s j)
    = dot (fun k : Fin 256 => val_main_v79 (F := Ideal) x3 (ix3 b s k)) (fun k n => val_main_v81 (F := Ideal) x11 (ix2 k n)) j := by
  rw [val_main_v82_apply]
  exact Finset.sum_congr rfl fun k _ => mul (congrArg (val_main_v79 (F := Ideal) x3) (funext fun a => match a with | ⟨0, _⟩ => rfl | ⟨1, _⟩ => rfl | ⟨2, _⟩ => rfl))
    (congrArg (val_main_v81 (F := Ideal) x11) (funext fun a => match a with | ⟨0, _⟩ => rfl | ⟨1, _⟩ => rfl))

theorem dot_v110 (j : Fin 1024) : val_main_v110 (F := Ideal) x0 x1 x2 x4 x5 x6 x7 x8 x9 x10 x13 (ix3 b s j)
    = dot (fun k : Fin 1024 => val_main_v107 (F := Ideal) x0 x1 x2 x4 x5 x6 x7 x8 x9 x10 (ix3 b s k)) (fun k n => val_main_v109 (F := Ideal) x13 (ix2 k n)) j := by
  rw [val_main_v110_apply]
  exact Finset.sum_congr rfl fun k _ => mul (congrArg (val_main_v107 (F := Ideal) x0 x1 x2 x4 x5 x6 x7 x8 x9 x10) (funext fun a => match a with | ⟨0, _⟩ => rfl | ⟨1, _⟩ => rfl | ⟨2, _⟩ => rfl))
    (congrArg (val_main_v109 (F := Ideal) x13) (funext fun a => match a with | ⟨0, _⟩ => rfl | ⟨1, _⟩ => rfl))

/-- The output projection's. -/
theorem inv_v31 (j : Fin 1024) : val_main_v31 (F := Ideal) x1 x2 x4 x5 (ix3 b s j) = inv 0x44800000#32 (fun k : Fin 1024 => val_main_v20 (F := Ideal) x1 x2 x4 x5 (ix3 b s k)) := by
  rw [val_main_v31_apply, val_main_v30_apply, val_main_v29_apply, val_main_v27_apply, val_main_v25_apply, val_main_v24_apply, val_main_v26_apply, val_main_v28_apply,
    val_main_cst_2_apply, val_main_cst_3_apply, val_main_cst_4_apply, Ideal.hostUnary_rsqrt_def, Ideal.addf_def, Ideal.hostDivf_def]
  refine inv_of _ _ fun k => ?_
  rw [val_main_v23_apply]
  exact congrArg (fun i => val_main_v20 (F := Ideal) x1 x2 x4 x5 i * val_main_v20 (F := Ideal) x1 x2 x4 x5 i) (funext fun a => match a with | ⟨0, _⟩ => rfl | ⟨1, _⟩ => rfl | ⟨2, _⟩ => rfl)

/-- The residual stream's after the mixers. -/
theorem inv_v47 (j : Fin 1024) : val_main_v47 (F := Ideal) x0 x1 x2 x4 x5 x6 (ix3 b s j) = inv 0x44800000#32 (fun k : Fin 1024 => val_main_v36 (F := Ideal) x0 x1 x2 x4 x5 x6 (ix3 b s k)) := by
  rw [val_main_v47_apply, val_main_v46_apply, val_main_v45_apply, val_main_v43_apply, val_main_v41_apply, val_main_v40_apply, val_main_v42_apply, val_main_v44_apply,
    val_main_cst_5_apply, val_main_cst_6_apply, val_main_cst_7_apply, Ideal.hostUnary_rsqrt_def, Ideal.addf_def, Ideal.hostDivf_def]
  refine inv_of _ _ fun k => ?_
  rw [val_main_v39_apply]
  exact congrArg (fun i => val_main_v36 (F := Ideal) x0 x1 x2 x4 x5 x6 i * val_main_v36 (F := Ideal) x0 x1 x2 x4 x5 x6 i) (funext fun a => match a with | ⟨0, _⟩ => rfl | ⟨1, _⟩ => rfl | ⟨2, _⟩ => rfl)

/-- The feed-forward part's output's. -/
theorem inv_v72 (j : Fin 1024) : val_main_v72 (F := Ideal) x0 x1 x2 x4 x5 x6 x7 x8 x9 (ix3 b s j) = inv 0x44800000#32 (fun k : Fin 1024 => val_main_v61 (F := Ideal) x0 x1 x2 x4 x5 x6 x7 x8 x9 (ix3 b s k)) := by
  rw [val_main_v72_apply, val_main_v71_apply, val_main_v70_apply, val_main_v68_apply, val_main_v66_apply, val_main_v65_apply, val_main_v67_apply, val_main_v69_apply,
    val_main_cst_8_apply, val_main_cst_9_apply, val_main_cst_10_apply, Ideal.hostUnary_rsqrt_def, Ideal.addf_def, Ideal.hostDivf_def]
  refine inv_of _ _ fun k => ?_
  rw [val_main_v64_apply]
  exact congrArg (fun i => val_main_v61 (F := Ideal) x0 x1 x2 x4 x5 x6 x7 x8 x9 i * val_main_v61 (F := Ideal) x0 x1 x2 x4 x5 x6 x7 x8 x9 i) (funext fun a => match a with | ⟨0, _⟩ => rfl | ⟨1, _⟩ => rfl | ⟨2, _⟩ => rfl)

/-- The projected embedding's. -/
theorem inv_v93 (j : Fin 1024) : val_main_v93 (F := Ideal) x3 x11 (ix3 b s j) = inv 0x44800000#32 (fun k : Fin 1024 => val_main_v82 (F := Ideal) x3 x11 (ix3 b s k)) := by
  rw [val_main_v93_apply, val_main_v92_apply, val_main_v91_apply, val_main_v89_apply, val_main_v87_apply, val_main_v86_apply, val_main_v88_apply, val_main_v90_apply,
    val_main_cst_11_apply, val_main_cst_12_apply, val_main_cst_13_apply, Ideal.hostUnary_rsqrt_def, Ideal.addf_def, Ideal.hostDivf_def]
  refine inv_of _ _ fun k => ?_
  rw [val_main_v85_apply]
  exact congrArg (fun i => val_main_v82 (F := Ideal) x3 x11 i * val_main_v82 (F := Ideal) x3 x11 i) (funext fun a => match a with | ⟨0, _⟩ => rfl | ⟨1, _⟩ => rfl | ⟨2, _⟩ => rfl)

/-- The residual stream's after the feed-forward part. -/
theorem inv_v106 (j : Fin 1024) : val_main_v106 (F := Ideal) x0 x1 x2 x4 x5 x6 x7 x8 x9 x10 (ix3 b s j) = inv 0x44800000#32 (fun k : Fin 1024 => val_main_v77 (F := Ideal) x0 x1 x2 x4 x5 x6 x7 x8 x9 x10 (ix3 b s k)) := by
  rw [val_main_v106_apply, val_main_v105_apply, val_main_v104_apply, val_main_v102_apply, val_main_v100_apply, val_main_v99_apply, val_main_v101_apply, val_main_v103_apply,
    val_main_cst_14_apply, val_main_cst_15_apply, val_main_cst_16_apply, Ideal.hostUnary_rsqrt_def, Ideal.addf_def, Ideal.hostDivf_def]
  refine inv_of _ _ fun k => ?_
  rw [val_main_v98_apply]
  exact congrArg (fun i => val_main_v77 (F := Ideal) x0 x1 x2 x4 x5 x6 x7 x8 x9 x10 i * val_main_v77 (F := Ideal) x0 x1 x2 x4 x5 x6 x7 x8 x9 x10 i) (funext fun a => match a with | ⟨0, _⟩ => rfl | ⟨1, _⟩ => rfl | ⟨2, _⟩ => rfl)

/-! ## The stages -/

theorem st_v16 (j : Fin 512) : val_main_v16 (F := Ideal) x1 x4 (ix3 b s j) = (tok x0 x1 x2 x3 b s).an (wts x4 x5 x6 x7 x8 x9 x10 x11 x12 x13) j := by
  rw [val_main_v16_apply, val_main_v13_apply, inv_v12, gain_v15]
  rfl

theorem st_v17 (k : Fin 1024) : val_main_v17 (F := Ideal) x1 x2 x4 (ix3 b s k) = (tok x0 x1 x2 x3 b s).mixed (wts x4 x5 x6 x7 x8 x9 x10 x11 x12 x13) k := by
  unfold val_main_v17 Token.mixed
  split
  · rename_i hk
    rw [← st_v16]
    exact concatenate_pair_apply_left (s₁ := S8x4096x512) (s₂ := S8x4096x512) 2 _ _ _ (ix3 b s k) rfl (ix3 b s ⟨k.val, hk⟩) (fun a => match a with | ⟨0, _⟩ => rfl | ⟨1, _⟩ => rfl | ⟨2, _⟩ => rfl)
  · rename_i hk
    refine concatenate_pair_apply_right (s₁ := S8x4096x512) (s₂ := S8x4096x512) 2 _ _ _ (ix3 b s k) rfl rfl (ix3 b s ⟨k.val - 512, by omega⟩) (fun a ha => match a with | ⟨0, _⟩ => rfl | ⟨1, _⟩ => rfl | ⟨2, _⟩ => absurd rfl ha) ?_
    show k.val - 512 + 512 = k.val
    omega

theorem st_v20 (j : Fin 1024) : val_main_v20 (F := Ideal) x1 x2 x4 x5 (ix3 b s j) = (tok x0 x1 x2 x3 b s).y (wts x4 x5 x6 x7 x8 x9 x10 x11 x12 x13) j := by
  rw [dot_v20]
  unfold Token.y
  simp only [mat_v19, st_v17 x0 x1 x2 x3 x4 x5 x6 x7 x8 x9 x10 x11 x12 x13]

theorem st_v36 (j : Fin 1024) : val_main_v36 (F := Ideal) x0 x1 x2 x4 x5 x6 (ix3 b s j) = (tok x0 x1 x2 x3 b s).h1 (wts x4 x5 x6 x7 x8 x9 x10 x11 x12 x13) j := by
  rw [val_main_v36_apply, val_main_v35_apply, val_main_v32_apply, inv_v31, gain_v34]
  simp only [st_v20 x0 x1 x2 x3 x4 x5 x6 x7 x8 x9 x10 x11 x12 x13]
  rfl

theorem st_v51 (j : Fin 1024) : val_main_v51 (F := Ideal) x0 x1 x2 x4 x5 x6 x7 (ix3 b s j) = (tok x0 x1 x2 x3 b s).hn (wts x4 x5 x6 x7 x8 x9 x10 x11 x12 x13) j := by
  rw [val_main_v51_apply, val_main_v48_apply, inv_v47, gain_v50]
  simp only [st_v36 x0 x1 x2 x3 x4 x5 x6 x7 x8 x9 x10 x11 x12 x13]
  rfl

theorem st_v55 (j : Fin 2816) : val_main_v55 (F := Ideal) x0 x1 x2 x4 x5 x6 x7 x8 (ix3 b s j) = dot ((tok x0 x1 x2 x3 b s).hn (wts x4 x5 x6 x7 x8 x9 x10 x11 x12 x13)) (wts x4 x5 x6 x7 x8 x9 x10 x11 x12 x13).wa j := by
  rw [val_main_v55_apply]
  refine (congrArg (val_main_v54 (F := Ideal) x0 x1 x2 x4 x5 x6 x7 x8) (funext fun a => match a with | ⟨0, _⟩ => rfl | ⟨1, _⟩ => rfl | ⟨2, _⟩ => rfl : idx_main_v55 (ix3 b s j) = ix3 b s ⟨j.val, by omega⟩)).trans ?_
  rw [dot_v54]
  unfold dot
  simp only [mat_v53, st_v51 x0 x1 x2 x3 x4 x5 x6 x7 x8 x9 x10 x11 x12 x13]

theorem st_v56 (j : Fin 2816) : val_main_v56 (F := Ideal) x0 x1 x2 x4 x5 x6 x7 x8 (ix3 b s j) = dot ((tok x0 x1 x2 x3 b s).hn (wts x4 x5 x6 x7 x8 x9 x10 x11 x12 x13)) (wts x4 x5 x6 x7 x8 x9 x10 x11 x12 x13).wb j := by
  rw [val_main_v56_apply]
  refine (congrArg (val_main_v54 (F := Ideal) x0 x1 x2 x4 x5 x6 x7 x8) (funext fun a => match a with | ⟨0, _⟩ => rfl | ⟨1, _⟩ => rfl | ⟨2, _⟩ => rfl : idx_main_v56 (ix3 b s j) = ix3 b s ⟨2816 + j.val, by omega⟩)).trans ?_
  rw [dot_v54]
  unfold dot
  simp only [mat_v53, st_v51 x0 x1 x2 x3 x4 x5 x6 x7 x8 x9 x10 x11 x12 x13]

theorem st_v58 (j : Fin 2816) : val_main_v58 (F := Ideal) x0 x1 x2 x4 x5 x6 x7 x8 (ix3 b s j) = (tok x0 x1 x2 x3 b s).act (wts x4 x5 x6 x7 x8 x9 x10 x11 x12 x13) j := by
  rw [val_main_v58_apply, val_main_v57_apply, val_main_call0_v5_apply, val_main_call0_v4_apply, val_main_call0_v3_apply, val_main_call0_v2_apply,
    val_main_call0_v1_apply, val_main_call0_v0_apply, st_v55 x0 x1 x2 x3 x4 x5 x6 x7 x8 x9 x10 x11 x12 x13, st_v56 x0 x1 x2 x3 x4 x5 x6 x7 x8 x9 x10 x11 x12 x13]
  exact mul (mul rfl (sigmoid_of _)) rfl

theorem st_v61 (j : Fin 1024) : val_main_v61 (F := Ideal) x0 x1 x2 x4 x5 x6 x7 x8 x9 (ix3 b s j) = (tok x0 x1 x2 x3 b s).f (wts x4 x5 x6 x7 x8 x9 x10 x11 x12 x13) j := by
  rw [dot_v61]
  unfold Token.f
  simp only [mat_v60, st_v58 x0 x1 x2 x3 x4 x5 x6 x7 x8 x9 x10 x11 x12 x13]

theorem st_v77 (j : Fin 1024) : val_main_v77 (F := Ideal) x0 x1 x2 x4 x5 x6 x7 x8 x9 x10 (ix3 b s j) = (tok x0 x1 x2 x3 b s).h2 (wts x4 x5 x6 x7 x8 x9 x10 x11 x12 x13) j := by
  rw [val_main_v77_apply, val_main_v76_apply, val_main_v73_apply, inv_v72, gain_v75]
  simp only [st_v61 x0 x1 x2 x3 x4 x5 x6 x7 x8 x9 x10 x11 x12 x13, st_v36 x0 x1 x2 x3 x4 x5 x6 x7 x8 x9 x10 x11 x12 x13]
  rfl

theorem st_v97 (j : Fin 1024) : val_main_v97 (F := Ideal) x3 x11 x12 (ix3 b s j) = (tok x0 x1 x2 x3 b s).e (wts x4 x5 x6 x7 x8 x9 x10 x11 x12 x13) j := by
  rw [val_main_v97_apply, val_main_v94_apply, inv_v93, gain_v96]
  simp only [dot_v82, ple_v79, mat_v81]
  rfl

theorem st_v116 (j : Fin 1024) : val_main_v116 (F := Ideal) x0 x1 x2 x4 x5 x6 x7 x8 x9 x10 x13 (ix3 b s j)
    = Ideal.logistic (dot (rms 0x44800000#32 ((tok x0 x1 x2 x3 b s).h2 (wts x4 x5 x6 x7 x8 x9 x10 x11 x12 x13))) (wts x4 x5 x6 x7 x8 x9 x10 x11 x12 x13).wgate j) := by
  rw [val_main_v116_apply, val_main_v115_apply, val_main_v114_apply, val_main_v113_apply, val_main_v112_apply, val_main_v111_apply, dot_v110]
  simp only [val_main_v107_apply, inv_v106, mat_v109, st_v77 x0 x1 x2 x3 x4 x5 x6 x7 x8 x9 x10 x11 x12 x13]
  exact sigmoid_of _

/-- An entry of the reference's result. -/
theorem reference_apply (j : Fin 1024) : val_main_v118 (F := Ideal) x0 x1 x2 x3 x4 x5 x6 x7 x8 x9 x10 x11 x12 x13 (ix3 b s j) = (tok x0 x1 x2 x3 b s).result (wts x4 x5 x6 x7 x8 x9 x10 x11 x12 x13) j := by
  rw [val_main_v118_apply, val_main_v117_apply, st_v77 x0 x1 x2 x3 x4 x5 x6 x7 x8 x9 x10 x11 x12 x13, st_v116 x0 x1 x2 x3 x4 x5 x6 x7 x8 x9 x10 x11 x12 x13,
    st_v97 x0 x1 x2 x3 x4 x5 x6 x7 x8 x9 x10 x11 x12 x13]
  rfl

end Cert.Post

end
-- ==== Proof.Post.Final.lean ====
/-
  The second call's result array: the reference's, of the arguments.
-/
module

public import proofs.«01_k».proof.Proof.Gen.Kernel2Ideal.Value
public import proofs.«01_k».proof.Proof.Post.Kernel
public import proofs.«01_k».proof.Proof.Post.Reference
public import Idealize.ShloMosaic.Lib.StableHlo.ReadAt

@[expose] public section

set_option maxRecDepth 16384

noncomputable section

namespace Cert.Post

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ) (c : Dev nD) (t : Fin cfg0.N)

abbrev arg0 : Vec Ideal S8x4096x1024 .f32 := m ((c : Thread nD τ).loc main_arg0)
abbrev arg1 : Vec Ideal S8x4096x512 .f32 := m ((c : Thread nD τ).loc main_arg1)
abbrev arg2 : Vec Ideal S8x4096x512 .f32 := m ((c : Thread nD τ).loc main_arg2)
abbrev arg3 : Vec Ideal S4x8x4096x256 .f32 := m ((c : Thread nD τ).loc main_arg3)
abbrev arg4 : Vec Ideal S4x1024 .f32 := m ((c : Thread nD τ).loc main_arg4)
abbrev arg5 : Vec Ideal S4x1024x1024 .f32 := m ((c : Thread nD τ).loc main_arg5)
abbrev arg6 : Vec Ideal S4x1024 .f32 := m ((c : Thread nD τ).loc main_arg6)
abbrev arg7 : Vec Ideal S4x1024 .f32 := m ((c : Thread nD τ).loc main_arg7)
abbrev arg8 : Vec Ideal S4x1024x5632 .f32 := m ((c : Thread nD τ).loc main_arg8)
abbrev arg9 : Vec Ideal S4x2816x1024 .f32 := m ((c : Thread nD τ).loc main_arg9)
abbrev arg10 : Vec Ideal S4x1024 .f32 := m ((c : Thread nD τ).loc main_arg10)
abbrev arg11 : Vec Ideal S4x256x1024 .f32 := m ((c : Thread nD τ).loc main_arg11)
abbrev arg12 : Vec Ideal S4x1024 .f32 := m ((c : Thread nD τ).loc main_arg12)
abbrev arg13 : Vec Ideal S4x1024x1024 .f32 := m ((c : Thread nD τ).loc main_arg13)

/-! ## The call's operands, which the host code makes of the arguments -/

theorem operand0 (b : Fin 8) (s : Fin 4096) (j : Fin 1024) : (V m c main_v0 : Vec Ideal S32768x1024 .f32) (ix2 ⟨b.val * 4096 + s.val, by omega⟩ j) = arg0 m c (ix3 b s j) := by
  unfold V
  after_reads_at

theorem operand1 (b : Fin 8) (s : Fin 4096) (j : Fin 512) : (V m c main_v1 : Vec Ideal S32768x512 .f32) (ix2 ⟨b.val * 4096 + s.val, by omega⟩ j) = arg1 m c (ix3 b s j) := by
  unfold V
  after_reads_at

theorem operand2 (b : Fin 8) (j : Fin 512) (s : Fin 4096) : (V m c main_v3 : Vec Ideal S8x512x4096 .bf16) (ix3 b j s) = arg2 m c (ix3 b s j) := by
  unfold V
  after_reads_at

theorem operand3 (l : Fin 4) (b : Fin 8) (s : Fin 4096) (j : Fin 256) : (V m c main_v4 : Vec Ideal S4x32768x256 .f32) (ix3 l ⟨b.val * 4096 + s.val, by omega⟩ j) = arg3 m c (ix4 l b s j) := by
  unfold V
  after_reads_at

theorem operand4 (l : Fin 4) (j : Fin 1024) : (V m c main_v5 : Vec Ideal S4x1x1024 .f32) (ix3 l 0 j) = arg4 m c (ix2 l j) := by
  unfold V
  after_reads_at

theorem operand6 (l : Fin 4) (j : Fin 1024) : (V m c main_v7 : Vec Ideal S4x1x1024 .f32) (ix3 l 0 j) = arg6 m c (ix2 l j) := by
  unfold V
  after_reads_at

theorem operand7 (l : Fin 4) (j : Fin 1024) : (V m c main_v8 : Vec Ideal S4x1x1024 .f32) (ix3 l 0 j) = arg7 m c (ix2 l j) := by
  unfold V
  after_reads_at

theorem operand11 (l : Fin 4) (j : Fin 1024) : (V m c main_v11 : Vec Ideal S4x1x1024 .f32) (ix3 l 0 j) = arg10 m c (ix2 l j) := by
  unfold V
  after_reads_at

theorem operand13 (l : Fin 4) (j : Fin 1024) : (V m c main_v13 : Vec Ideal S4x1x1024 .f32) (ix3 l 0 j) = arg12 m c (ix2 l j) := by
  unfold V
  after_reads_at

theorem operand5 (l : Fin 4) (k : Fin 1024) (j : Fin 1024) : (V m c main_v6 : Vec Ideal S4x1024x1024 .bf16) (ix3 l k j) = arg5 m c (ix3 l k j) := by
  unfold V
  after_reads_at

theorem operand8 (l : Fin 4) (k : Fin 1024) (j : Fin 5632) : (V m c main_v9 : Vec Ideal S4x1024x5632 .bf16) (ix3 l k j) = arg8 m c (ix3 l k j) := by
  unfold V
  after_reads_at

theorem operand10 (l : Fin 4) (k : Fin 2816) (j : Fin 1024) : (V m c main_v10 : Vec Ideal S4x2816x1024 .bf16) (ix3 l k j) = arg9 m c (ix3 l k j) := by
  unfold V
  after_reads_at

theorem operand12 (l : Fin 4) (k : Fin 256) (j : Fin 1024) : (V m c main_v12 : Vec Ideal S4x256x1024 .bf16) (ix3 l k j) = arg11 m c (ix3 l k j) := by
  unfold V
  after_reads_at

theorem operand14 (l : Fin 4) (k : Fin 1024) (j : Fin 1024) : (V m c main_v14 : Vec Ideal S4x1024x1024 .bf16) (ix3 l k j) = arg13 m c (ix3 l k j) := by
  unfold V
  after_reads_at

/-! ## The blocks of a grid point -/

/-- The batch of a grid point: eight points each. -/
def batch : Fin 8 := ⟨t.val / 8, by have h : t.val < 64 := t.isLt; omega⟩

/-- The place of a grid point's row in the sequence. -/
def pos (q : Fin 512) : Fin 4096 := ⟨t.val % 8 * 512 + q.val, by omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = 3 ∧ win0_3.index t (1 : Fin 3) = t.val ∧ win0_3.index t (2 : Fin 3) = 0 :=
  (by decide +kernel : ∀ t : Fin grid0.N, _)
theorem idx4 : ∀ t : Fin cfg0.N, win0_4.index t (0 : Fin 3) = 3 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 3 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 3 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 3 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 3 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 3 ∧ win0_9.index t (1 : Fin 3) = 0 ∧ win0_9.index t (2 : Fin 3) = 1 :=
  (by decide +kernel : ∀ t : Fin grid0.N, _)
theorem idx10 : ∀ t : Fin cfg0.N, win0_10.index t (0 : Fin 3) = 3 ∧ win0_10.index t (1 : Fin 3) = 0 ∧ win0_10.index t (2 : Fin 3) = 0 :=
  (by decide +kernel : ∀ t : Fin grid0.N, _)
theorem idx11 : ∀ t : Fin cfg0.N, win0_11.index t (0 : Fin 3) = 3 ∧ win0_11.index t (1 : Fin 3) = 0 ∧ win0_11.index t (2 : Fin 3) = 0 :=
  (by decide +kernel : ∀ t : Fin grid0.N, _)
theorem idx12 : ∀ t : Fin cfg0.N, win0_12.index t (0 : Fin 3) = 3 ∧ win0_12.index t (1 : Fin 3) = 0 ∧ win0_12.index t (2 : Fin 3) = 0 :=
  (by decide +kernel : ∀ t : Fin grid0.N, _)
theorem idx13 : ∀ t : Fin cfg0.N, win0_13.index t (0 : Fin 3) = 3 ∧ win0_13.index t (1 : Fin 3) = 0 ∧ win0_13.index t (2 : Fin 3) = 0 :=
  (by decide +kernel : ∀ t : Fin grid0.N, _)
theorem idx14 : ∀ t : Fin cfg0.N, win0_14.index t (0 : Fin 3) = 3 ∧ win0_14.index t (1 : Fin 3) = 0 ∧ win0_14.index t (2 : Fin 3) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

theorem block0 (q : Fin 512) (j : Fin 1024) : (iblk m c 0 t : Vec Ideal S512x1024 .f32) (ix2 q j) = arg0 m c (ix3 (batch t) (pos t q) j) := by
  obtain ⟨e0, e1⟩ := idx0 t
  refine Eq.trans ?_ (operand0 m c (batch t) (pos t q) j)
  show V m c main_v0 (((cfg0.win 0).blk t).view.emb (ix2 q j)) = _
  refine congrArg (V m c main_v0) (funext fun a => Fin.ext ?_)
  match a with
  | ⟨0, _⟩ => show win0_0.index t (0 : Fin 2) * 512 + 1 * q.val = t.val / 8 * 4096 + (t.val % 8 * 512 + q.val); omega
  | ⟨1, _⟩ => show win0_0.index t (1 : Fin 2) * 1024 + 1 * j.val = j.val; omega

theorem block1 (q : Fin 512) (j : Fin 512) : (iblk m c 1 t : Vec Ideal S512x512 .f32) (ix2 q j) = arg1 m c (ix3 (batch t) (pos t q) j) := by
  obtain ⟨e0, e1⟩ := idx1 t
  refine Eq.trans ?_ (operand1 m c (batch t) (pos t q) j)
  show V m c main_v1 (((cfg0.win 1).blk t).view.emb (ix2 q j)) = _
  refine congrArg (V m c main_v1) (funext fun a => Fin.ext ?_)
  match a with
  | ⟨0, _⟩ => show win0_1.index t (0 : Fin 2) * 512 + 1 * q.val = t.val / 8 * 4096 + (t.val % 8 * 512 + q.val); omega
  | ⟨1, _⟩ => show win0_1.index t (1 : Fin 2) * 512 + 1 * j.val = j.val; omega

theorem block2 (j : Fin 512) (q : Fin 512) : (iblk m c 2 t : Vec Ideal S1x512x512 .bf16) (ix3 0 j q) = arg2 m c (ix3 (batch t) (pos t q) j) := by
  obtain ⟨e0, e1, e2⟩ := idx2 t
  refine Eq.trans ?_ (operand2 m c (batch t) j (pos t q))
  show V m c main_v3 (((cfg0.win 2).blk t).view.emb (ix3 0 j q)) = _
  refine congrArg (V m c main_v3) (funext fun a => Fin.ext ?_)
  match a with
  | ⟨0, _⟩ => show win0_2.index t (0 : Fin 3) * 1 + 1 * 0 = t.val / 8; omega
  | ⟨1, _⟩ => show win0_2.index t (1 : Fin 3) * 512 + 1 * j.val = j.val; omega
  | ⟨2, _⟩ => show win0_2.index t (2 : Fin 3) * 512 + 1 * q.val = t.val % 8 * 512 + q.val; omega

theorem block3 (q : Fin 512) (j : Fin 256) : (iblk m c 3 t : Vec Ideal S1x512x256 .f32) (ix3 0 q j) = arg3 m c (ix4 3 (batch t) (pos t q) j) := by
  obtain ⟨e0, e1, e2⟩ := idx3 t
  refine Eq.trans ?_ (operand3 m c 3 (batch t) (pos t q) j)
  show V m c main_v4 (((cfg0.win 3).blk t).view.emb (ix3 0 q j)) = _
  refine congrArg (V m c main_v4) (funext fun a => Fin.ext ?_)
  match a with
  | ⟨0, _⟩ => show win0_3.index t (0 : Fin 3) * 1 + 1 * 0 = 3; omega
  | ⟨1, _⟩ => show win0_3.index t (1 : Fin 3) * 512 + 1 * q.val = t.val / 8 * 4096 + (t.val % 8 * 512 + q.val); omega
  | ⟨2, _⟩ => show win0_3.index t (2 : Fin 3) * 256 + 1 * j.val = j.val; omega

theorem block4 (j : Fin 512) : (iblk m c 4 t : Vec Ideal S1x1x512 .f32) (ix3 0 0 j) = arg4 m c (ix2 3 ⟨j.val, by omega⟩) := by
  obtain ⟨e0, e1, e2⟩ := idx4 t
  refine Eq.trans ?_ (operand4 m c 3 ⟨j.val, by omega⟩)
  show V m c main_v5 (((cfg0.win 4).blk t).view.emb (ix3 0 0 j)) = _
  refine congrArg (V m c main_v5) (funext fun a => Fin.ext ?_)
  match a with
  | ⟨0, _⟩ => show win0_4.index t (0 : Fin 3) * 1 + 1 * 0 = 3; omega
  | ⟨1, _⟩ => show win0_4.index t (1 : Fin 3) * 1 + 1 * 0 = 0; omega
  | ⟨2, _⟩ => show win0_4.index t (2 : Fin 3) * 512 + 1 * j.val = j.val; omega

theorem block6 (j : Fin 1024) : (iblk m c 6 t : Vec Ideal S1x1x1024 .f32) (ix3 0 0 j) = arg6 m c (ix2 3 j) := by
  obtain ⟨e0, e1, e2⟩ := idx6 t
  refine Eq.trans ?_ (operand6 m c 3 j)
  show V m c main_v7 (((cfg0.win 6).blk t).view.emb (ix3 0 0 j)) = _
  refine congrArg (V m c main_v7) (funext fun a => Fin.ext ?_)
  match a with
  | ⟨0, _⟩ => show win0_6.index t (0 : Fin 3) * 1 + 1 * 0 = 3; omega
  | ⟨1, _⟩ => show win0_6.index t (1 : Fin 3) * 1 + 1 * 0 = 0; omega
  | ⟨2, _⟩ => show win0_6.index t (2 : Fin 3) * 1024 + 1 * j.val = j.val; omega

theorem block7 (j : Fin 1024) : (iblk m c 7 t : Vec Ideal S1x1x1024 .f32) (ix3 0 0 j) = arg7 m c (ix2 3 j) := by
  obtain ⟨e0, e1, e2⟩ := idx7 t
  refine Eq.trans ?_ (operand7 m c 3 j)
  show V m c main_v8 (((cfg0.win 7).blk t).view.emb (ix3 0 0 j)) = _
  refine congrArg (V m c main_v8) (funext fun a => Fin.ext ?_)
  match a with
  | ⟨0, _⟩ => show win0_7.index t (0 : Fin 3) * 1 + 1 * 0 = 3; omega
  | ⟨1, _⟩ => show win0_7.index t (1 : Fin 3) * 1 + 1 * 0 = 0; omega
  | ⟨2, _⟩ => show win0_7.index t (2 : Fin 3) * 1024 + 1 * j.val = j.val; omega

theorem block11 (j : Fin 1024) : (iblk m c 11 t : Vec Ideal S1x1x1024 .f32) (ix3 0 0 j) = arg10 m c (ix2 3 j) := by
  obtain ⟨e0, e1, e2⟩ := idx11 t
  refine Eq.trans ?_ (operand11 m c 3 j)
  show V m c main_v11 (((cfg0.win 11).blk t).view.emb (ix3 0 0 j)) = _
  refine congrArg (V m c main_v11) (funext fun a => Fin.ext ?_)
  match a with
  | ⟨0, _⟩ => show win0_11.index t (0 : Fin 3) * 1 + 1 * 0 = 3; omega
  | ⟨1, _⟩ => show win0_11.index t (1 : Fin 3) * 1 + 1 * 0 = 0; omega
  | ⟨2, _⟩ => show win0_11.index t (2 : Fin 3) * 1024 + 1 * j.val = j.val; omega

theorem block13 (j : Fin 1024) : (iblk m c 13 t : Vec Ideal S1x1x1024 .f32) (ix3 0 0 j) = arg12 m c (ix2 3 j) := by
  obtain ⟨e0, e1, e2⟩ := idx13 t
  refine Eq.trans ?_ (operand13 m c 3 j)
  show V m c main_v13 (((cfg0.win 13).blk t).view.emb (ix3 0 0 j)) = _
  refine congrArg (V m c main_v13) (funext fun a => Fin.ext ?_)
  match a with
  | ⟨0, _⟩ => show win0_13.index t (0 : Fin 3) * 1 + 1 * 0 = 3; omega
  | ⟨1, _⟩ => show win0_13.index t (1 : Fin 3) * 1 + 1 * 0 = 0; omega
  | ⟨2, _⟩ => show win0_13.index t (2 : Fin 3) * 1024 + 1 * j.val = j.val; omega

theorem block5 (k : Fin 1024) (j : Fin 1024) : (iblk m c 5 t : Vec Ideal S1x1024x1024 .bf16) (ix3 0 k j) = arg5 m c (ix3 3 k j) := by
  obtain ⟨e0, e1, e2⟩ := idx5 t
  refine Eq.trans ?_ (operand5 m c 3 k j)
  show V m c main_v6 (((cfg0.win 5).blk t).view.emb (ix3 0 k j)) = _
  refine congrArg (V m c main_v6) (funext fun a => Fin.ext ?_)
  match a with
  | ⟨0, _⟩ => show win0_5.index t (0 : Fin 3) * 1 + 1 * 0 = 3; omega
  | ⟨1, _⟩ => show win0_5.index t (1 : Fin 3) * 1024 + 1 * k.val = k.val; omega
  | ⟨2, _⟩ => show win0_5.index t (2 : Fin 3) * 1024 + 1 * j.val = j.val; omega

theorem block10 (k : Fin 2816) (j : Fin 1024) : (iblk m c 10 t : Vec Ideal S1x2816x1024 .bf16) (ix3 0 k j) = arg9 m c (ix3 3 k j) := by
  obtain ⟨e0, e1, e2⟩ := idx10 t
  refine Eq.trans ?_ (operand10 m c 3 k j)
  show V m c main_v10 (((cfg0.win 10).blk t).view.emb (ix3 0 k j)) = _
  refine congrArg (V m c main_v10) (funext fun a => Fin.ext ?_)
  match a with
  | ⟨0, _⟩ => show win0_10.index t (0 : Fin 3) * 1 + 1 * 0 = 3; omega
  | ⟨1, _⟩ => show win0_10.index t (1 : Fin 3) * 2816 + 1 * k.val = k.val; omega
  | ⟨2, _⟩ => show win0_10.index t (2 : Fin 3) * 1024 + 1 * j.val = j.val; omega

theorem block12 (k : Fin 256) (j : Fin 1024) : (iblk m c 12 t : Vec Ideal S1x256x1024 .bf16) (ix3 0 k j) = arg11 m c (ix3 3 k j) := by
  obtain ⟨e0, e1, e2⟩ := idx12 t
  refine Eq.trans ?_ (operand12 m c 3 k j)
  show V m c main_v12 (((cfg0.win 12).blk t).view.emb (ix3 0 k j)) = _
  refine congrArg (V m c main_v12) (funext fun a => Fin.ext ?_)
  match a with
  | ⟨0, _⟩ => show win0_12.index t (0 : Fin 3) * 1 + 1 * 0 = 3; omega
  | ⟨1, _⟩ => show win0_12.index t (1 : Fin 3) * 256 + 1 * k.val = k.val; omega
  | ⟨2, _⟩ => show win0_12.index t (2 : Fin 3) * 1024 + 1 * j.val = j.val; omega

theorem block14 (k : Fin 1024) (j : Fin 1024) : (iblk m c 14 t : Vec Ideal S1x1024x1024 .bf16) (ix3 0 k j) = arg13 m c (ix3 3 k j) := by
  obtain ⟨e0, e1, e2⟩ := idx14 t
  refine Eq.trans ?_ (operand14 m c 3 k j)
  show V m c main_v14 (((cfg0.win 14).blk t).view.emb (ix3 0 k j)) = _
  refine congrArg (V m c main_v14) (funext fun a => Fin.ext ?_)
  match a with
  | ⟨0, _⟩ => show win0_14.index t (0 : Fin 3) * 1 + 1 * 0 = 3; omega
  | ⟨1, _⟩ => show win0_14.index t (1 : Fin 3) * 1024 + 1 * k.val = k.val; omega
  | ⟨2, _⟩ => show win0_14.index t (2 : Fin 3) * 1024 + 1 * j.val = j.val; omega

theorem block8 (k : Fin 1024) (j : Fin 2816) : (iblk m c 8 t : Vec Ideal S1x1024x2816 .bf16) (ix3 0 k j) = arg8 m c (ix3 3 k ⟨j.val, by omega⟩) := by
  obtain ⟨e0, e1, e2⟩ := idx8 t
  refine Eq.trans ?_ (operand8 m c 3 k ⟨j.val, by omega⟩)
  show V m c main_v9 (((cfg0.win 8).blk t).view.emb (ix3 0 k j)) = _
  refine congrArg (V m c main_v9) (funext fun a => Fin.ext ?_)
  match a with
  | ⟨0, _⟩ => show win0_8.index t (0 : Fin 3) * 1 + 1 * 0 = 3; omega
  | ⟨1, _⟩ => show win0_8.index t (1 : Fin 3) * 1024 + 1 * k.val = k.val; omega
  | ⟨2, _⟩ => show win0_8.index t (2 : Fin 3) * 2816 + 1 * j.val = j.val; omega

theorem block9 (k : Fin 1024) (j : Fin 2816) : (iblk m c 9 t : Vec Ideal S1x1024x2816 .bf16) (ix3 0 k j) = arg8 m c (ix3 3 k ⟨2816 + j.val, by omega⟩) := by
  obtain ⟨e0, e1, e2⟩ := idx9 t
  refine Eq.trans ?_ (operand8 m c 3 k ⟨2816 + j.val, by omega⟩)
  show V m c main_v9 (((cfg0.win 9).blk t).view.emb (ix3 0 k j)) = _
  refine congrArg (V m c main_v9) (funext fun a => Fin.ext ?_)
  match a with
  | ⟨0, _⟩ => show win0_9.index t (0 : Fin 3) * 1 + 1 * 0 = 3; omega
  | ⟨1, _⟩ => show win0_9.index t (1 : Fin 3) * 1024 + 1 * k.val = k.val; omega
  | ⟨2, _⟩ => show win0_9.index t (2 : Fin 3) * 2816 + 1 * j.val = 2816 + j.val; omega

/-- The input blocks together. -/
abbrev point : Blocks := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

set_option maxHeartbeats 2000000 in
theorem point_W : (point m c t).W = wts (arg4 m c) (arg5 m c) (arg6 m c) (arg7 m c) (arg8 m c) (arg9 m c) (arg10 m c) (arg11 m c) (arg12 m c) (arg13 m c) :=
  (Weights.mk.injEq ..).mpr ⟨funext fun j => block4 m c t j, funext₂ fun k n => block5 m c t k n, funext fun j => block6 m c t j,
    funext fun j => block7 m c t j, funext₂ fun k n => block8 m c t k n, funext₂ fun k n => block9 m c t k n, funext₂ fun k n => block10 m c t k n,
    funext fun j => block11 m c t j, funext₂ fun k n => block12 m c t k n, funext fun j => block13 m c t j, funext₂ fun k n => block14 m c t k n⟩

theorem point_row (q : Fin 512) : (point m c t).row q = tok (arg0 m c) (arg1 m c) (arg2 m c) (arg3 m c) (batch t) (pos t q) :=
  (Token.mk.injEq ..).mpr ⟨funext fun j => block0 m c t q j, funext fun j => block1 m c t q j, funext fun j => block2 m c t j q,
    funext fun j => block3 m c t q j⟩

/-! ## The result -/

/-- The reference's result, of the kernel's arguments. -/
abbrev result : Vec Ideal S32768x1024 .f32 :=
  Cert.Reference2Ideal.Read.val_main_v119 (F := Ideal) (arg0 m c) (arg1 m c) (arg2 m c) (arg3 m c) (arg4 m c) (arg5 m c) (arg6 m c) (arg7 m c) (arg8 m c) (arg9 m c) (arg10 m c) (arg11 m c) (arg12 m c) (arg13 m c)

theorem result_apply (i : S32768x1024.Idx) (b : Fin 8) (s : Fin 4096) (j : Fin 1024) (h0 : (i 0).val = b.val * 4096 + s.val) (h1 : (i 1).val = j.val) :
    result m c i = (tok (arg0 m c) (arg1 m c) (arg2 m c) (arg3 m c) b s).result (wts (arg4 m c) (arg5 m c) (arg6 m c) (arg7 m c) (arg8 m c) (arg9 m c) (arg10 m c) (arg11 m c) (arg12 m c) (arg13 m c)) j := by
  refine (Cert.Reference2Ideal.Read.val_main_v119_apply (arg0 m c) (arg1 m c) (arg2 m c) (arg3 m c) (arg4 m c) (arg5 m c) (arg6 m c) (arg7 m c) (arg8 m c) (arg9 m c) (arg10 m c) (arg11 m c) (arg12 m c) (arg13 m c) i).trans (Eq.trans (congrArg _ (funext fun a => Fin.ext ?_))
    (reference_apply (arg0 m c) (arg1 m c) (arg2 m c) (arg3 m c) (arg4 m c) (arg5 m c) (arg6 m c) (arg7 m c) (arg8 m c) (arg9 m c) (arg10 m c) (arg11 m c) (arg12 m c) (arg13 m c) b s j))
  match a with
  | ⟨0, _⟩ => show ((i 0).val * 1024 + (i 1).val) / 4194304 = b.val; omega
  | ⟨1, _⟩ => show ((i 0).val * 1024 + (i 1).val) / 1024 % 4096 = s.val; omega
  | ⟨2, _⟩ => show ((i 0).val * 1024 + (i 1).val) % 1024 = j.val; omega

/-- Where an entry of the output's block lies in the result. -/
theorem emb15 (q : Fin 512) (j : Fin 1024) :
    (((cfg0.win 15).blk t).view.emb (ix2 q j) 0).val = (batch t).val * 4096 + (pos t q).val ∧ (((cfg0.win 15).blk t).view.emb (ix2 q j) 1).val = j.val := by
  obtain ⟨e0, e1⟩ := idx15 t
  constructor
  · show win0_15.index t (0 : Fin 2) * 512 + 1 * q.val = t.val / 8 * 4096 + (t.val % 8 * 512 + q.val); omega
  · show win0_15.index t (1 : Fin 2) * 1024 + 1 * j.val = j.val; omega

set_option maxHeartbeats 2000000 in
/-- What a grid point writes back is its block of the reference's result. -/
theorem flushed15_eq : (dats m 0 c).flushed 15 t = ((cfg0.win 15).blk t).view.read (Elt Ideal) (result m c) := by
  rw [flushed15]
  funext y
  obtain ⟨q, j, rfl⟩ : ∃ (q : Fin 512) (j : Fin 1024), y = (ix2 q j : S512x1024.Idx) :=
    ⟨y 0, y 1, funext fun a => match a with | ⟨0, _⟩ => rfl | ⟨1, _⟩ => rfl⟩
  show (point m c t).out (ix2 q j) = result m c (((cfg0.win 15).blk t).view.emb (ix2 q j))
  rw [Blocks.out_apply, point_W, point_row]
  exact (result_apply m c _ _ _ _ (emb15 t q j).1 (emb15 t q j).2).symm

/-- Every index of the result is in some grid point's block. -/
theorem covered15 (i : S32768x1024.Idx) : ∃ t : Fin cfg0.N, (cfg0.win 15).flush t = true ∧ i ∈ ((cfg0.win 15).blk t).view.set := by
  have h0 : (i 0).val < 32768 := (i 0).isLt
  let t : Fin cfg0.N := ⟨(i 0).val / 512, show (i 0).val / 512 < 64 by omega⟩
  refine ⟨t, flush0_15 t, ?_⟩
  have h := ((cfg0.win 15).blk t).view.emb_mem_set (ix2 ⟨(i 0).val % 512, by omega⟩ (i 1) : S512x1024.Idx)
  have e : ((cfg0.win 15).blk t).view.emb (ix2 ⟨(i 0).val % 512, by omega⟩ (i 1) : S512x1024.Idx) = i := by
    obtain ⟨e0, e1⟩ := emb15 t ⟨(i 0).val % 512, by omega⟩ (i 1)
    funext a; apply Fin.ext
    match a with
    | ⟨0, _⟩ =>
      refine e0.trans ?_
      show (i 0).val / 512 / 8 * 4096 + ((i 0).val / 512 % 8 * 512 + (i 0).val % 512) = (i 0).val
      omega
    | ⟨1, _⟩ => exact e1
  rwa [e] at h

/-- The result array after the run is the reference's result. -/
theorem final15 : (dats m 0 c).arrAt 15 cfg0.N = result m c :=
  (dats m 0 c).arrAt_eq_of_cover 15 (result m c) (fun t _ => flushed15_eq m c t) covered15

end Cert.Post

end
-- ==== Proof.Mix.Reference.lean ====
/-
  The reference of the third call, read at an entry: a token's normalised row times the columns of the input projection that
  make the keys and the values.
-/
module

public import proofs.«01_k».proof.Proof.Post.Reference
public import proofs.«01_k».proof.Proof.Gen.Reference3Ideal.Read

@[expose] public section

noncomputable section

namespace Cert.Mix

open Idealize.ShloMosaic Cert.Post Cert.Reference3Ideal Cert.Reference3Ideal.Read

/-- A row over its root mean square, times a gain. -/
def norm (x g : Fin 1024 → EReal) : Fin 1024 → EReal := fun k => rms 0x44800000#32 x k * g k

variable (x0 : Vec Ideal S8x4096x1024 .f32) (x1 : Vec Ideal S4x1024 .f32) (x2 : Vec Ideal S4x1024x2568 .f32) (b : Fin 8) (s : Fin 4096)

/-- A token's normalised row in the arguments. -/
abbrev tokenRow : Fin 1024 → EReal := norm (fun k => x0 (ix3 b s k)) (fun k => x1 (ix2 3 k))

/-- The columns of the input projection that make the keys. -/
abbrev keyCols : Fin 1024 → Fin 512 → EReal := fun k n => x2 (ix3 3 k ⟨512 + n.val, by omega⟩)

/-- The columns of the input projection that make the values. -/
abbrev valueCols : Fin 1024 → Fin 512 → EReal := fun k n => x2 (ix3 3 k ⟨1024 + n.val, by omega⟩)

theorem inv_v10 (j : Fin 1024) : val_main_v10 (F := Ideal) x0 (ix3 b s j) = inv 0x44800000#32 (fun k : Fin 1024 => x0 (ix3 b s k)) := by
  rw [val_main_v10_apply, val_main_v9_apply, val_main_v8_apply, val_main_v6_apply, val_main_v4_apply, val_main_v3_apply, val_main_v5_apply, val_main_v7_apply,
    val_main_cst_apply, val_main_cst_0_apply, val_main_cst_1_apply, Ideal.hostUnary_rsqrt_def, Ideal.addf_def, Ideal.hostDivf_def]
  refine inv_of _ _ fun k => ?_
  rw [val_main_v2_apply]
  exact congrArg (fun i => x0 i * x0 i) (funext fun a => match a with | ⟨0, _⟩ => rfl | ⟨1, _⟩ => rfl | ⟨2, _⟩ => rfl)

theorem gain_v13 (j : Fin 1024) : val_main_v13 (F := Ideal) x1 (ix3 b s j) = x1 (ix2 3 j) := by
  rw [val_main_v13_apply, val_main_v12_apply, val_main_v1_apply, val_main_v0_apply]
  exact congrArg x1 (funext fun a => Fin.ext (match a with | ⟨0, _⟩ => rfl | ⟨1, _⟩ => show j.val % 1024 = j.val by omega))

theorem norm_v14 (j : Fin 1024) : val_main_v14 (F := Ideal) x0 x1 (ix3 b s j) = tokenRow x0 x1 b s j := by
  rw [val_main_v14_apply, val_main_v11_apply, gain_v13, inv_v10]
  rfl

theorem mat_v16 (k : Fin 1024) (n : Fin 2568) : val_main_v16 (F := Ideal) x2 (ix2 k n) = x2 (ix3 3 k n) := by
  rw [val_main_v16_apply, val_main_v15_apply]
  exact congrArg x2 (funext fun a => Fin.ext (match a with
    | ⟨0, _⟩ => rfl
    | ⟨1, _⟩ => show (k.val * 2568 + n.val) / 2568 % 1024 = k.val by omega
    | ⟨2, _⟩ => show (k.val * 2568 + n.val) % 2568 = n.val by omega))

theorem dot_v17 (n : Fin 2568) : val_main_v17 (F := Ideal) x0 x1 x2 (ix3 b s n) = ∑ k : Fin 1024, tokenRow x0 x1 b s k * x2 (ix3 3 k n) := by
  rw [val_main_v17_apply]
  refine Finset.sum_congr rfl fun k _ => mul (Eq.trans (congrArg _ ?_) (norm_v14 x0 x1 b s k)) (Eq.trans (congrArg _ ?_) (mat_v16 x2 k n))
  · exact funext fun a => match a with | ⟨0, _⟩ => rfl | ⟨1, _⟩ => rfl | ⟨2, _⟩ => rfl
  · exact funext fun a => match a with | ⟨0, _⟩ => rfl | ⟨1, _⟩ => rfl

/-- The keys. -/
theorem keys_apply (j : Fin 512) : val_main_v25 (F := Ideal) x0 x1 x2 (ix3 b s j) = dot (tokenRow x0 x1 b s) (keyCols x2) j := by
  rw [val_main_v25_apply, val_main_v19_apply]
  refine Eq.trans (congrArg (val_main_v17 (F := Ideal) x0 x1 x2) (funext fun a => ?_)) (dot_v17 x0 x1 x2 b s ⟨512 + j.val, by omega⟩)
  match a with
  | ⟨0, _⟩ => rfl
  | ⟨1, _⟩ => rfl
  | ⟨2, _⟩ => rfl

/-- The values, which lie by blocks of 256 tokens, transposed. -/
theorem values_apply (n : Fin 16) (d : Fin 512) (l : Fin 256) :
    val_main_v26 (F := Ideal) x0 x1 x2 (ix4 b n d l) = dot (tokenRow x0 x1 b ⟨n.val * 256 + l.val, by omega⟩) (valueCols x2) d := by
  rw [val_main_v26_apply, val_main_v24_apply, val_main_v23_apply, val_main_v20_apply]
  refine Eq.trans (congrArg (val_main_v17 (F := Ideal) x0 x1 x2) (funext fun a => Fin.ext ?_)) (dot_v17 x0 x1 x2 b ⟨n.val * 256 + l.val, by omega⟩ ⟨1024 + d.val, by omega⟩)
  match a with
  | ⟨0, _⟩ => show (((b.val * 16 + n.val) * 256 + l.val) * 512 + d.val) / 2097152 = b.val; omega
  | ⟨1, _⟩ => show (((b.val * 16 + n.val) * 256 + l.val) * 512 + d.val) / 512 % 4096 = n.val * 256 + l.val; omega
  | ⟨2, _⟩ => show 1024 + (((b.val * 16 + n.val) * 256 + l.val) * 512 + d.val) % 512 = 1024 + d.val; omega

end Cert.Mix

end
-- ==== Proof.Mix.Payload.lean ====
/-
  What the kernel of the third call stores for 256 rows, at an entry: the keys and the values of each row.
-/
module

public import proofs.«01_k».proof.Proof.Mix.Reference
public import proofs.«01_k».proof.Proof.Gen.Kernel3Ideal.Skeleton

@[expose] public section

noncomputable section

namespace Cert.Mix

open Idealize.ShloMosaic Cert.Post Cert.Kernel3Ideal Cert.Kernel3Ideal.Gen

theorem cast_lead3 {α : Type} {a b : ℕ} (v : (⟨2, ![a, b]⟩ : Shape).Idx → α) (h : (⟨2, ![a, b]⟩ : Shape).ShapeCasts ⟨3, ![1, a, b]⟩) (i : Fin a) (j : Fin b) :
    shapeCast (⟨3, ![1, a, b]⟩ : Shape) v h (ix3 0 i j) = v (ix2 i j) := by
  refine shapeCast_apply _ _ _ _ ?_
  rw [Shape.rowMajor_val_two, Shape.rowMajor_val_three]
  simp

theorem cast_lead4 {α : Type} {a b : ℕ} (v : (⟨2, ![a, b]⟩ : Shape).Idx → α) (h : (⟨2, ![a, b]⟩ : Shape).ShapeCasts ⟨4, ![1, 1, a, b]⟩) (i : Fin a) (j : Fin b) :
    shapeCast (⟨4, ![1, 1, a, b]⟩ : Shape) v h (ix4 0 0 i j) = v (ix2 i j) := by
  refine shapeCast_apply _ _ _ _ ?_
  rw [Shape.rowMajor_val_two, Shape.rowMajor_val_four]
  simp

/-- A product of a weight matrix, by its rows, with rows: the transposed product of the rows. -/
theorem mm_rows {M K N : ℕ} {φ₁ φ₂ : FTy} (D : DotDims ⟨2, ![M, K]⟩ ⟨2, ![N, K]⟩ ⟨2, ![M, N]⟩) (wf) (hD : D = ⟨[1], [1], [0], [0], [], [], wf⟩)
    (l : FVec Ideal ⟨3, ![1, M, K]⟩ φ₁) (r : FVec Ideal ⟨2, ![N, K]⟩ φ₂) (h) (i : Fin M) (j : Fin N) :
    matmul D none (shapeCast (⟨2, ![M, K]⟩ : Shape) l h) r (constant (⟨2, ![M, N]⟩ : Shape) .f32 0x00000000#32) (ix2 i j)
      = dot (fun k => r (ix2 j k)) (fun k n => l (ix3 0 n k)) i := by
  subst hD
  refine (Ideal.matmul_apply _ _ _ _ _ _).trans ?_
  show Ideal.ofBits .f32 0x00000000#32 + _ = _
  rw [zero_eq, zero_add, ← Equiv.sum_comp (ValueIdx.contrEquiv1 _ K rfl rfl).symm]
  refine Finset.sum_congr rfl fun k _ => ?_
  have hk := ValueIdx.contrEquiv1_symm_val (⟨[1], [1], [0], [0], [], [], wf⟩ : DotDims ⟨2, ![M, K]⟩ ⟨2, ![N, K]⟩ ⟨2, ![M, N]⟩) K rfl rfl k
  refine (congrArg₂ (fun x y : EReal => x * y) (Eq.trans (congrArg _ ?_) (Attn.cast_drop1 l h i k)) (congrArg r ?_)).trans (mul_comm (l (ix3 0 i k)) (r (ix2 j k)))
  · funext c; apply Fin.ext
    match c with
    | ⟨0, _⟩ => rfl
    | ⟨1, _⟩ => exact hk
  · funext c; apply Fin.ext
    match c with
    | ⟨0, _⟩ => rfl
    | ⟨1, _⟩ => exact hk

variable (h : Vec Ideal S1x256x1024 .f32) (g : Vec Ideal S1x1x1024 .f32)

/-- The normalised rows. -/
theorem norm_apply (i : Fin 256) (k : Fin 1024) :
    k0_pay3 (F := Ideal) h g (ix2 i k) = norm (fun k => h (ix3 0 i k)) (fun k => g (ix3 0 0 k)) k :=
  have hc : ∀ k : Fin 1024, (shapeCast S256x1024 h shapeCasts_S1x256x1024_S256x1024 : FVec Ideal S256x1024 .f32) (ix2 i k) = h (ix3 0 i k) := fun k => Attn.cast_drop1 h _ i k
  mul (mul (hc k) ((inv_apply 0x44800000#32 (shapeCast S256x1024 h shapeCasts_S1x256x1024_S256x1024 : FVec Ideal S256x1024 .f32) _ _ _ i k).trans
    (congrArg (inv 0x44800000#32) (funext hc)))) (gain_apply g _ _ i k)

/-- The keys of the rows. -/
theorem key_apply (w : Vec Ideal S1x1024x512 .bf16) (i : Fin 256) (j : Fin 512) :
    k0_pay41 (F := Ideal) (k0_pay40 (k0_pay3 h g) w) (ix3 0 i j) = dot (norm (fun k => h (ix3 0 i k)) (fun k => g (ix3 0 0 k))) (fun k n => w (ix3 0 k n)) j := by
  refine (cast_lead3 _ _ i j).trans ((mm_row dot_S256x1024_S1024x512_S256x512_1_0_0_1_n_n rfl _ w _ i j).trans ?_)
  exact congrArg (fun x => dot x _ j) (funext fun k => norm_apply h g i k)

/-- The values of the rows, transposed. -/
theorem value_apply (w : Vec Ideal S1x1024x1024 .bf16) (d : Fin 512) (i : Fin 256) :
    k0_pay7 (F := Ideal) (k0_pay3 h g) w (ix4 0 0 d i)
      = dot (norm (fun k => h (ix3 0 i k)) (fun k => g (ix3 0 0 k))) (fun k n => w (ix3 0 ⟨512 + n.val, by omega⟩ k)) d := by
  unfold k0_pay7
  refine (cast_lead4 (α := Ideal .bf16) _ shapeCasts_S512x256_S1x1x512x256 d i).trans ?_
  refine (extractStridedSlice_apply ![512, 0] (k0_pay5 (F := Ideal) (k0_pay3 h g) w) slices_S1024x256_o512_0_S512x256 (ix2 d i) (ix2 ⟨512 + d.val, by omega⟩ i) (fun a => match a with
    | ⟨0, _⟩ => rfl
    | ⟨1, _⟩ => (Nat.zero_add _).symm)).trans ?_
  refine (mm_rows dot_S1024x1024_S256x1024_S1024x256_1_1_0_0_n_n _ rfl w _ _ ⟨512 + d.val, by omega⟩ i).trans ?_
  exact congrArg (fun x : Fin 1024 → EReal => ∑ k, x k * w (ix3 0 ⟨512 + d.val, by omega⟩ k)) (funext fun k => norm_apply h g i k)

end Cert.Mix

end
-- ==== Proof.Mix.Pieces.lean ====
/-
  The pieces of a grid point's blocks of keys and of values: four stores each, one for each 256 rows.
-/
module

public import proofs.«01_k».proof.Proof.Gen.Kernel3Ideal.Frame
public import proofs.«01_k».proof.Proof.Mix.Payload

@[expose] public section

set_option maxRecDepth 16384

noncomputable section

namespace Cert.Mix

open Idealize.ShloMosaic Cert.Kernel3Ideal Cert.Kernel3Ideal.Gen

section Pieces

variable {M0 : Memref sig .tc .vmem S1x1024x1024 .f32} (h0 : M0.IsWhole) {M1 : Memref sig .tc .vmem S1x1x1024 .f32} (h1 : M1.IsWhole)
  {M2 : Memref sig .tc .vmem S1x1024x1024 .bf16} (h2 : M2.IsWhole) {M3 : Memref sig .tc .vmem S1x1024x512 .bf16} (h3 : M3.IsWhole)
  (x0 : Vec Ideal S1x1024x1024 .f32) (x1 : Vec Ideal S1x1x1024 .f32) (x2 : Vec Ideal S1x1024x1024 .bf16) (x3 : Vec Ideal S1x1024x512 .bf16)

/-- 256 normalised rows, from row `o` on. -/
abbrev rowsAt (o : ℕ) (h : ∀ a : Fin 3, (![0, o, 0] : Fin 3 → ℕ) a + S1x256x1024.size a ≤ S1x1024x1024.size a) : FVec Ideal S256x1024 .bf16 :=
  k0_pay3 (View.readAt (Elt Ideal) M0.view (Rect.unit (s := S1x1024x1024) ![0, o, 0] S1x256x1024.size h).toLoadRect (h0.unread x0))
    (View.readAt (Elt Ideal) M1.view (Rect.unit (s := S1x1x1024) ![0, 0, 0] S1x1x1024.size inb_S1x1x1024_S1x1x1024_0_0_0).toLoadRect (h1.unread x1))

/-- The store of their keys. -/
abbrev keyPiece (o : ℕ) (h : ∀ a : Fin 3, (![0, o, 0] : Fin 3 → ℕ) a + S1x256x1024.size a ≤ S1x1024x1024.size a)
    (h' : ∀ a : Fin 3, (![0, o, 0] : Fin 3 → ℕ) a + S1x256x512.size a ≤ S1x1024x512.size a) : View.Piece (Elt Ideal) S1x1024x512 .bf16 :=
  ⟨Rect.unit (s := S1x1024x512) ![0, o, 0] S1x256x512.size h', k0_pay41 (F := Ideal) (k0_pay40 (rowsAt h0 h1 x0 x1 o h)
    (View.readAt (Elt Ideal) M3.view (Rect.unit (s := S1x1024x512) ![0, 0, 0] S1x1024x512.size inb_S1x1024x512_S1x1024x512_0_0_0).toLoadRect (h3.unread x3)))⟩

/-- The store of their values. -/
abbrev valuePiece (o n : ℕ) (h : ∀ a : Fin 3, (![0, o, 0] : Fin 3 → ℕ) a + S1x256x1024.size a ≤ S1x1024x1024.size a)
    (h' : ∀ a : Fin 4, (![0, n, 0, 0] : Fin 4 → ℕ) a + S1x1x512x256.size a ≤ S1x4x512x256.size a) : View.Piece (Elt Ideal) S1x4x512x256 .bf16 :=
  ⟨Rect.unit (s := S1x4x512x256) ![0, n, 0, 0] S1x1x512x256.size h', k0_pay7 (F := Ideal) (rowsAt h0 h1 x0 x1 o h)
    (View.readAt (Elt Ideal) M2.view (Rect.unit (s := S1x1024x1024) ![0, 0, 0] S1x1024x1024.size inb_S1x1024x1024_S1x1024x1024_0_0_0).toLoadRect (h2.unread x2))⟩

end Pieces

theorem pieces18_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15).2.2.1 =
      [keyPiece harg2 harg3 harg5 x0 x1 x3 768 inb_S1x1024x1024_S1x256x1024_0_768_0 inb_S1x1024x512_S1x256x512_0_768_0, keyPiece harg2 harg3 harg5 x0 x1 x3 512 inb_S1x1024x1024_S1x256x1024_0_512_0 inb_S1x1024x512_S1x256x512_0_512_0, keyPiece harg2 harg3 harg5 x0 x1 x3 256 inb_S1x1024x1024_S1x256x1024_0_256_0 inb_S1x1024x512_S1x256x512_0_256_0, keyPiece harg2 harg3 harg5 x0 x1 x3 0 inb_S1x1024x1024_S1x256x1024_0_0_0 inb_S1x1024x512_S1x256x512_0_0_0] := by
  sl_kernel_rfl

theorem pieces20_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.1 =
      [valuePiece harg2 harg3 harg4 x0 x1 x2 768 3 inb_S1x1024x1024_S1x256x1024_0_768_0 inb_S1x4x512x256_S1x1x512x256_0_3_0_0, valuePiece harg2 harg3 harg4 x0 x1 x2 512 2 inb_S1x1024x1024_S1x256x1024_0_512_0 inb_S1x4x512x256_S1x1x512x256_0_2_0_0, valuePiece harg2 harg3 harg4 x0 x1 x2 256 1 inb_S1x1024x1024_S1x256x1024_0_256_0 inb_S1x4x512x256_S1x1x512x256_0_1_0_0, valuePiece harg2 harg3 harg4 x0 x1 x2 0 0 inb_S1x1024x1024_S1x256x1024_0_0_0 inb_S1x4x512x256_S1x1x512x256_0_0_0_0] := by
  sl_kernel_rfl

theorem pieces18_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : ¬cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (xs0 : Vec Ideal S1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0).2.2.1 =
      [keyPiece harg2 harg3 harg5 x0 x1 x3 768 inb_S1x1024x1024_S1x256x1024_0_768_0 inb_S1x1024x512_S1x256x512_0_768_0, keyPiece harg2 harg3 harg5 x0 x1 x3 512 inb_S1x1024x1024_S1x256x1024_0_512_0 inb_S1x1024x512_S1x256x512_0_512_0, keyPiece harg2 harg3 harg5 x0 x1 x3 256 inb_S1x1024x1024_S1x256x1024_0_256_0 inb_S1x1024x512_S1x256x512_0_256_0, keyPiece harg2 harg3 harg5 x0 x1 x3 0 inb_S1x1024x1024_S1x256x1024_0_0_0 inb_S1x1024x512_S1x256x512_0_0_0] := by
  sl_kernel_rfl

theorem pieces20_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : ¬cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (xs0 : Vec Ideal S1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0).2.2.2.2.1 =
      [valuePiece harg2 harg3 harg4 x0 x1 x2 768 3 inb_S1x1024x1024_S1x256x1024_0_768_0 inb_S1x4x512x256_S1x1x512x256_0_3_0_0, valuePiece harg2 harg3 harg4 x0 x1 x2 512 2 inb_S1x1024x1024_S1x256x1024_0_512_0 inb_S1x4x512x256_S1x1x512x256_0_2_0_0, valuePiece harg2 harg3 harg4 x0 x1 x2 256 1 inb_S1x1024x1024_S1x256x1024_0_256_0 inb_S1x4x512x256_S1x1x512x256_0_1_0_0, valuePiece harg2 harg3 harg4 x0 x1 x2 0 0 inb_S1x1024x1024_S1x256x1024_0_0_0 inb_S1x4x512x256_S1x1x512x256_0_0_0_0] := by
  sl_kernel_rfl

end Cert.Mix

end
-- ==== Proof.Mix.Kernel.lean ====
/-
  A grid point's blocks of keys and of values: every row of the block of the residual stream, normalised, times the
  projection's columns.

  The body takes its 1024 rows in four parts, with the same operations; `key_rows` and `value_rows` read a part's stores.
-/
module

public import proofs.«01_k».proof.Proof.Mix.Pieces
public import Idealize.ShloMosaic.Lib.WholeRead
public import proofs.«01_k».proof.Proof.Post.Kernel

@[expose] public section

set_option maxRecDepth 16384

noncomputable section

namespace Cert.Mix

open Idealize.ShloMosaic Cert.Post Cert.Kernel3Ideal Cert.Kernel3Ideal.Gen

section Rows

variable (x0 : Vec Ideal S1x1024x1024 .f32) (x1 : Vec Ideal S1x1x1024 .f32) (x2 : Vec Ideal S1x1024x1024 .bf16) (x3 : Vec Ideal S1x1024x512 .bf16)

/-- A normalised row of the block. -/
abbrev blockRow (q : Fin 1024) : Fin 1024 → EReal := norm (fun k => x0 (ix3 0 q k)) (fun k => x1 (ix3 0 0 k))

/-- The block of keys. -/
def keyBlock : S1x1024x512.Idx → EReal := fun y => dot (blockRow x0 x1 (y 1)) (fun k n => x3 (ix3 0 k n)) (y 2)

/-- The block of values. -/
def valueBlock : S1x4x512x256.Idx → EReal := fun y =>
  dot (blockRow x0 x1 ⟨(y 1).val * 256 + (y 3).val, by have h : (y 1).val < 4 := (y 1).isLt; have h' : (y 3).val < 256 := (y 3).isLt; omega⟩)
    (fun k (n : Fin 512) => x2 (ix3 0 ⟨512 + n.val, by omega⟩ k)) (y 2)

theorem row_of (o : ℕ) (inb) (inb') (i : Fin 256) (q : Fin 1024) (hq : q.val = o + i.val) :
    norm (fun k => View.ld x0 (Rect.unit (s := S1x1024x1024) ![0, o, 0] S1x256x1024.size inb) (ix3 0 i k))
      (fun k => View.ld x1 (Rect.unit (s := S1x1x1024) ![0, 0, 0] S1x1x1024.size inb') (ix3 0 0 k)) = blockRow x0 x1 q :=
  congrArg₂ norm (funext fun k => ld3 x0 inb 0 i k 0 q k rfl hq (Nat.zero_add _).symm) (funext fun k => ldw x1 inb' 0 0 k)

theorem readAt_ld {s : Shape} {e : EltTy} {M : Memref sig .tc .vmem s e} (hM : M.IsWhole) (X : Vec Ideal s e) (R : Rect s) :
    View.readAt (Elt Ideal) M.view R.toLoadRect (hM.unread X) = View.ld X R :=
  funext fun x => Memref.IsWhole.readAt_unread hM X R.toLoadRect x

variable {M0 : Memref sig .tc .vmem S1x1024x1024 .f32} (h0 : M0.IsWhole) {M1 : Memref sig .tc .vmem S1x1x1024 .f32} (h1 : M1.IsWhole)
  {M2 : Memref sig .tc .vmem S1x1024x1024 .bf16} (h2 : M2.IsWhole) {M3 : Memref sig .tc .vmem S1x1024x512 .bf16} (h3 : M3.IsWhole)

theorem key_rows (o : ℕ) (inb) (inb') (x : S1x256x512.Idx) :
    (keyPiece h0 h1 h3 x0 x1 x3 o inb inb').2 x = keyBlock x0 x1 x3 ((keyPiece h0 h1 h3 x0 x1 x3 o inb inb').1.emb x) := by
  have hx : x = ix3 0 (x 1) (x 2) := by
    funext k
    match k with
    | ⟨0, _⟩ => exact Subsingleton.elim (α := Fin 1) _ _
    | ⟨1, _⟩ => rfl
    | ⟨2, _⟩ => rfl
  generalize hy : (keyPiece h0 h1 h3 x0 x1 x3 o inb inb').1.emb x = y
  have e1 : (y 1).val = o + (x 1).val := by rw [← hy]; show o + 1 * (x 1).val = o + (x 1).val; omega
  have e2 : (y 2).val = (x 2).val := by rw [← hy]; show 0 + 1 * (x 2).val = (x 2).val; omega
  refine (congrArg _ hx).trans ((key_apply _ _ _ (x 1) (x 2)).trans ?_)
  rw [readAt_ld h0, readAt_ld h1, readAt_ld h3]
  unfold keyBlock
  rw [show y 2 = x 2 from Fin.ext e2]
  exact congrFun (congrArg₂ dot (row_of x0 x1 o inb _ (x 1) (y 1) e1) (funext₂ fun k n => ldw x3 _ 0 k n)) (x 2)

theorem value_rows (o n : ℕ) (hn : o = n * 256) (inb) (inb') (x : S1x1x512x256.Idx) :
    (valuePiece h0 h1 h2 x0 x1 x2 o n inb inb').2 x = valueBlock x0 x1 x2 ((valuePiece h0 h1 h2 x0 x1 x2 o n inb inb').1.emb x) := by
  have hx : x = ix4 0 0 (x 2) (x 3) := by
    funext k
    match k with
    | ⟨0, _⟩ => exact Subsingleton.elim (α := Fin 1) _ _
    | ⟨1, _⟩ => exact Subsingleton.elim (α := Fin 1) _ _
    | ⟨2, _⟩ => rfl
    | ⟨3, _⟩ => rfl
  generalize hy : (valuePiece h0 h1 h2 x0 x1 x2 o n inb inb').1.emb x = y
  have e1 : (y 1).val = n := by rw [← hy]; show n + 1 * (x 1).val = n; have h : (x 1).val < 1 := (x 1).isLt; omega
  have e2 : (y 2).val = (x 2).val := by rw [← hy]; show 0 + 1 * (x 2).val = (x 2).val; omega
  have e3 : (y 3).val = (x 3).val := by rw [← hy]; show 0 + 1 * (x 3).val = (x 3).val; omega
  refine (congrArg _ hx).trans ((value_apply _ _ _ (x 2) (x 3)).trans ?_)
  rw [readAt_ld h0, readAt_ld h1, readAt_ld h2]
  unfold valueBlock
  rw [show y 2 = x 2 from Fin.ext e2]
  exact congrFun (congrArg₂ dot (row_of x0 x1 o inb _ (x 3) _ (show (y 1).val * 256 + (y 3).val = o + (x 3).val by rw [e1, e3, hn]))
    (funext₂ fun k (m : Fin 512) => ldw x2 _ 0 ⟨512 + m.val, by omega⟩ k)) (x 2)

end Rows

theorem out18_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (y : S1x1024x512.Idx) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 y = keyBlock x0 x1 x3 y := by
  refine View.read_writes_apply_of_pieces (Val := Elt Ideal) (v := VO0_18) (f := VO0_18.junk) (keyBlock x0 x1 x3) _ ?_ y
    (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 y)
  rw [pieces18_A]
  refine List.forall_mem_cons.mpr ⟨?_, List.forall_mem_cons.mpr ⟨?_, List.forall_mem_cons.mpr ⟨?_, List.forall_mem_cons.mpr ⟨?_, fun _ h => absurd h List.not_mem_nil⟩⟩⟩⟩
  · exact key_rows x0 x1 x3 harg2 harg3 harg5 768 _ _
  · exact key_rows x0 x1 x3 harg2 harg3 harg5 512 _ _
  · exact key_rows x0 x1 x3 harg2 harg3 harg5 256 _ _
  · exact key_rows x0 x1 x3 harg2 harg3 harg5 0 _ _

theorem out20_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (y : S1x4x512x256.Idx) :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 y = valueBlock x0 x1 x2 y := by
  refine View.read_writes_apply_of_pieces (Val := Elt Ideal) (v := VO0_20) (f := VO0_20.junk) (valueBlock x0 x1 x2) _ ?_ y
    (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 y)
  rw [pieces20_A]
  refine List.forall_mem_cons.mpr ⟨?_, List.forall_mem_cons.mpr ⟨?_, List.forall_mem_cons.mpr ⟨?_, List.forall_mem_cons.mpr ⟨?_, fun _ h => absurd h List.not_mem_nil⟩⟩⟩⟩
  · exact value_rows x0 x1 x2 harg2 harg3 harg4 768 3 rfl _ _
  · exact value_rows x0 x1 x2 harg2 harg3 harg4 512 2 rfl _ _
  · exact value_rows x0 x1 x2 harg2 harg3 harg4 256 1 rfl _ _
  · exact value_rows x0 x1 x2 harg2 harg3 harg4 0 0 rfl _ _

theorem out18_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : ¬cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (xs0 : Vec Ideal S1x128 .f32) (y : S1x1024x512.Idx) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 y = keyBlock x0 x1 x3 y := by
  refine View.read_writes_apply_of_pieces (Val := Elt Ideal) (v := VO0_18) (f := VO0_18.junk) (keyBlock x0 x1 x3) _ ?_ y
    (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 y)
  rw [pieces18_B]
  refine List.forall_mem_cons.mpr ⟨?_, List.forall_mem_cons.mpr ⟨?_, List.forall_mem_cons.mpr ⟨?_, List.forall_mem_cons.mpr ⟨?_, fun _ h => absurd h List.not_mem_nil⟩⟩⟩⟩
  · exact key_rows x0 x1 x3 harg2 harg3 harg5 768 _ _
  · exact key_rows x0 x1 x3 harg2 harg3 harg5 512 _ _
  · exact key_rows x0 x1 x3 harg2 harg3 harg5 256 _ _
  · exact key_rows x0 x1 x3 harg2 harg3 harg5 0 _ _

theorem out20_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x1024x512 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1024x1024 .bf16) (harg8 : arg8.IsWhole) (arg9 : Memref sig .tc .vmem S256x256 .bf16) (harg9 : arg9.IsWhole) (arg10 : Memref sig .tc .vmem S128x384 .bf16) (harg10 : arg10.IsWhole) (arg11 : Memref sig .tc .vmem S384x128 .bf16) (harg11 : arg11.IsWhole) (arg12 : Memref sig .tc .vmem S128x1 .f32) (harg12 : arg12.IsWhole) (arg13 : Memref sig .tc .vmem S1x128 .f32) (harg13 : arg13.IsWhole) (arg14 : Memref sig .tc .vmem S1x512x1 .f32) (harg14 : arg14.IsWhole) (arg15 : Memref sig .tc .vmem S1x8x128x128 .f32) (harg15 : arg15.IsWhole) (arg16 : Memref sig .tc .vmem S1x8x128 .f32) (harg16 : arg16.IsWhole) (arg17 : Memref sig .tc .vmem S1x512x1 .f32) (harg17 : arg17.IsWhole) (arg18 : Memref sig .tc .vmem S1x512x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x1024x128 .bf16) (harg21 : arg21.IsWhole) (arg22 : Memref sig .tc .vmem S1x4x512x256 .bf16) (harg22 : arg22.IsWhole) (arg23 : Memref sig .tc .vmem S1x512x1024 .bf16) (harg23 : arg23.IsWhole) (arg24 : Memref sig .tc .vmem S1x128 .f32) (harg24 : arg24.IsWhole) (arg25 : Memref sig .tc .vmem S2x512x256 .f32) (harg25 : arg25.IsWhole) (hc0 : ¬cond0_0 i)
    (x0 : Vec Ideal S1x1024x1024 .f32) (x1 : Vec Ideal S1x1x1024 .f32) (x2 : Vec Ideal S1x1024x1024 .bf16) (x3 : Vec Ideal S1x1024x512 .bf16) (x4 : Vec Ideal S1x1024x128 .bf16) (x5 : Vec Ideal S1x1x128 .f32) (x6 : Vec Ideal S1x1024x1024 .bf16) (x7 : Vec Ideal S256x256 .bf16) (x8 : Vec Ideal S128x384 .bf16) (x9 : Vec Ideal S384x128 .bf16) (x10 : Vec Ideal S128x1 .f32) (x11 : Vec Ideal S1x128 .f32) (x12 : Vec Ideal S1x512x1 .f32) (x13 : Vec Ideal S1x8x128x128 .f32) (x14 : Vec Ideal S1x8x128 .f32) (x15 : Vec Ideal S1x512x1 .f32) (xs0 : Vec Ideal S1x128 .f32) (y : S1x4x512x256.Idx) :
    out0_B_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 y = valueBlock x0 x1 x2 y := by
  refine View.read_writes_apply_of_pieces (Val := Elt Ideal) (v := VO0_20) (f := VO0_20.junk) (valueBlock x0 x1 x2) _ ?_ y
    (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 y)
  rw [pieces20_B]
  refine List.forall_mem_cons.mpr ⟨?_, List.forall_mem_cons.mpr ⟨?_, List.forall_mem_cons.mpr ⟨?_, List.forall_mem_cons.mpr ⟨?_, fun _ h => absurd h List.not_mem_nil⟩⟩⟩⟩
  · exact value_rows x0 x1 x2 harg2 harg3 harg4 768 3 rfl _ _
  · exact value_rows x0 x1 x2 harg2 harg3 harg4 512 2 rfl _ _
  · exact value_rows x0 x1 x2 harg2 harg3 harg4 256 1 rfl _ _
  · exact value_rows x0 x1 x2 harg2 harg3 harg4 0 0 rfl _ _

end Cert.Mix

end
-- ==== Proof.Mix.Final.lean ====
/-
  The third call's arrays of keys and of values: the reference's, of the arguments.
-/
module

public import proofs.«01_k».proof.Proof.Gen.Kernel3Ideal.Value
public import proofs.«01_k».proof.Proof.Mix.Kernel
public import Idealize.ShloMosaic.Lib.StableHlo.ReadAt

@[expose] public section

set_option maxRecDepth 16384

noncomputable section

namespace Cert.Mix

open Idealize.ShloMosaic Idealize.ShloMosaic.TcCoe Idealize.SL.Sem Cert.Post
open Cert.Kernel3Ideal Cert.Kernel3Ideal.Gen Cert.Kernel3Ideal.Value

variable (m : (ℓ : Loc nD τ sig) → Buf (Elt Ideal) ℓ) (c : Dev nD) (t : Fin cfg0.N)

abbrev arg0 : Vec Ideal S8x4096x1024 .f32 := m ((c : Thread nD τ).loc main_arg0)
abbrev arg1 : Vec Ideal S4x1024 .f32 := m ((c : Thread nD τ).loc main_arg1)
abbrev arg2 : Vec Ideal S4x1024x2568 .f32 := m ((c : Thread nD τ).loc main_arg2)

/-! ## The call's operands, which the host code makes of the arguments -/

theorem operand0 (b : Fin 8) (s : Fin 4096) (j : Fin 1024) : (V m c main_arg0 : Vec Ideal S8x4096x1024 .f32) (ix3 b s j) = arg0 m c (ix3 b s j) := by
  unfold V
  after_reads_at

theorem operand1 (l : Fin 4) (j : Fin 1024) : (V m c main_v15 : Vec Ideal S4x1x1024 .f32) (ix3 l 0 j) = arg1 m c (ix2 l j) := by
  unfold V
  after_reads_at

theorem operand2 (l : Fin 4) (j : Fin 512) (k : Fin 1024) :
    (V m c main_v4 : Vec Ideal S4x1024x1024 .bf16) (ix3 l ⟨512 + j.val, by omega⟩ k) = arg2 m c (ix3 l k ⟨1024 + j.val, by omega⟩) := by
  unfold V
  after_reads_at
  after_reads_at

theorem operand3 (l : Fin 4) (k : Fin 1024) (j : Fin 512) : (V m c main_v6 : Vec Ideal S4x1024x512 .bf16) (ix3 l k j) = arg2 m c (ix3 l k ⟨512 + j.val, by omega⟩) := by
  unfold V
  after_reads_at

/-! ## The blocks of a grid point -/

/-- The batch of a grid point: four points each. -/
def batch : Fin 8 := ⟨t.val / 4, by have h : t.val < 32 := t.isLt; omega⟩

/-- The place of a grid point's row in the sequence. -/
def pos (q : Fin 1024) : Fin 4096 := ⟨t.val % 4 * 1024 + q.val, by omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = 3 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 3 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 3 ∧ win0_3.index t (1 : Fin 3) = 0 ∧ win0_3.index t (2 : Fin 3) = 0 :=
  (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)
theorem idx20 : ∀ t : Fin cfg0.N, win0_20.index t (0 : Fin 4) = t.val / 4 ∧ win0_20.index t (1 : Fin 4) = t.val % 4 ∧ win0_20.index t (2 : Fin 4) = 0 ∧ win0_20.index t (3 : Fin 4) = 0 :=
  (by decide +kernel : ∀ t : Fin grid0.N, _)

theorem block0 (q : Fin 1024) (j : Fin 1024) : (iblk m c 0 t : Vec Ideal S1x1024x1024 .f32) (ix3 0 q j) = arg0 m c (ix3 (batch t) (pos t q) j) := by
  obtain ⟨e0, e1, e2⟩ := idx0 t
  refine Eq.trans ?_ (operand0 m c (batch t) (pos t q) j)
  show V m c main_arg0 (((cfg0.win 0).blk t).view.emb (ix3 0 q j)) = _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 1024 + 1 * q.val = t.val % 4 * 1024 + q.val; omega
  | ⟨2, _⟩ => show win0_0.index t (2 : Fin 3) * 1024 + 1 * j.val = j.val; omega

theorem block1 (j : Fin 1024) : (iblk m c 1 t : Vec Ideal S1x1x1024 .f32) (ix3 0 0 j) = arg1 m c (ix2 3 j) := by
  obtain ⟨e0, e1, e2⟩ := idx1 t
  refine Eq.trans ?_ (operand1 m c 3 j)
  show V m c main_v15 (((cfg0.win 1).blk t).view.emb (ix3 0 0 j)) = _
  refine congrArg (V m c main_v15) (funext fun a => Fin.ext ?_)
  match a with
  | ⟨0, _⟩ => show win0_1.index t (0 : Fin 3) * 1 + 1 * 0 = 3; omega
  | ⟨1, _⟩ => show win0_1.index t (1 : Fin 3) * 1 + 1 * 0 = 0; omega
  | ⟨2, _⟩ => show win0_1.index t (2 : Fin 3) * 1024 + 1 * j.val = j.val; omega

theorem block2 (j : Fin 512) (k : Fin 1024) :
    (iblk m c 2 t : Vec Ideal S1x1024x1024 .bf16) (ix3 0 ⟨512 + j.val, by omega⟩ k) = valueCols (arg2 m c) k j := by
  obtain ⟨e0, e1, e2⟩ := idx2 t
  refine Eq.trans ?_ (operand2 m c 3 j k)
  show V m c main_v4 (((cfg0.win 2).blk t).view.emb (ix3 0 ⟨512 + j.val, by omega⟩ k)) = _
  refine congrArg (V m c main_v4) (funext fun a => Fin.ext ?_)
  match a with
  | ⟨0, _⟩ => show win0_2.index t (0 : Fin 3) * 1 + 1 * 0 = 3; omega
  | ⟨1, _⟩ => show win0_2.index t (1 : Fin 3) * 1024 + 1 * (512 + j.val) = 512 + j.val; omega
  | ⟨2, _⟩ => show win0_2.index t (2 : Fin 3) * 1024 + 1 * k.val = k.val; omega

theorem block3 (k : Fin 1024) (j : Fin 512) : (iblk m c 3 t : Vec Ideal S1x1024x512 .bf16) (ix3 0 k j) = keyCols (arg2 m c) k j := by
  obtain ⟨e0, e1, e2⟩ := idx3 t
  refine Eq.trans ?_ (operand3 m c 3 k j)
  show V m c main_v6 (((cfg0.win 3).blk t).view.emb (ix3 0 k j)) = _
  refine congrArg (V m c main_v6) (funext fun a => Fin.ext ?_)
  match a with
  | ⟨0, _⟩ => show win0_3.index t (0 : Fin 3) * 1 + 1 * 0 = 3; omega
  | ⟨1, _⟩ => show win0_3.index t (1 : Fin 3) * 1024 + 1 * k.val = k.val; omega
  | ⟨2, _⟩ => show win0_3.index t (2 : Fin 3) * 512 + 1 * j.val = j.val; omega

theorem blockRow_eq (q : Fin 1024) : blockRow (iblk m c 0 t) (iblk m c 1 t) q = tokenRow (arg0 m c) (arg1 m c) (batch t) (pos t q) :=
  congrArg₂ norm (funext fun k => block0 m c t q k) (funext fun k => block1 m c t k)

/-! ## The keys -/

/-- The reference's keys, of the kernel's arguments. -/
abbrev keys : Vec Ideal S8x4096x512 .bf16 := Cert.Reference3Ideal.Read.val_main_v25 (F := Ideal) (arg0 m c) (arg1 m c) (arg2 m c)

theorem emb18 (q : Fin 1024) (j : Fin 512) : ((cfg0.win 18).blk t).view.emb (ix3 0 q j : S1x1024x512.Idx) = (ix3 (batch t) (pos t q) j : S8x4096x512.Idx) := by
  obtain ⟨e0, e1, e2⟩ := idx18 t
  funext a; apply Fin.ext
  match a with
  | ⟨0, _⟩ => show win0_18.index t (0 : Fin 3) * 1 + 1 * 0 = t.val / 4; omega
  | ⟨1, _⟩ => show win0_18.index t (1 : Fin 3) * 1024 + 1 * q.val = t.val % 4 * 1024 + q.val; omega
  | ⟨2, _⟩ => show win0_18.index t (2 : Fin 3) * 512 + 1 * j.val = j.val; omega

theorem keyBlock_eq (y : S1x1024x512.Idx) : keyBlock (iblk m c 0 t) (iblk m c 1 t) (iblk m c 3 t) y = keys m c (((cfg0.win 18).blk t).view.emb y) := by
  obtain ⟨q, j, rfl⟩ : ∃ (q : Fin 1024) (j : Fin 512), y = (ix3 0 q j : S1x1024x512.Idx) :=
    ⟨y 1, y 2, funext fun a => match a with | ⟨0, _⟩ => Subsingleton.elim (α := Fin 1) _ _ | ⟨1, _⟩ => rfl | ⟨2, _⟩ => rfl⟩
  refine Eq.trans ?_ (Eq.trans (keys_apply (arg0 m c) (arg1 m c) (arg2 m c) (batch t) (pos t q) j).symm (congrArg (keys m c) (emb18 t q j).symm))
  exact congrFun (congrArg₂ dot (blockRow_eq m c t q) (funext₂ fun k n => block3 m c t k n)) j

set_option maxHeartbeats 2000000 in
/-- What a grid point writes back is its block of the reference's keys. -/
theorem flushed18_eq : (dats m 0 c).flushed 18 t = ((cfg0.win 18).blk t).view.read (Elt Ideal) (keys m c) := by
  by_cases h0 : t.val % 4 = 0
  · rw [flushed18_A m c t h0]
    funext y
    exact (out18_A ..).trans (keyBlock_eq m c t y)
  · rw [flushed18_B m c t h0]
    funext y
    exact (out18_B ..).trans (keyBlock_eq m c t y)

/-- Every index of the keys is in some grid point's block. -/
theorem covered18 (i : S8x4096x512.Idx) : ∃ t : Fin cfg0.N, (cfg0.win 18).flush t = true ∧ i ∈ ((cfg0.win 18).blk t).view.set := by
  have h0 : (i 0).val < 8 := (i 0).isLt
  have h1 : (i 1).val < 4096 := (i 1).isLt
  let t : Fin cfg0.N := ⟨(i 0).val * 4 + (i 1).val / 1024, show (i 0).val * 4 + (i 1).val / 1024 < 32 by omega⟩
  refine ⟨t, flush0_18 t, ?_⟩
  have h := ((cfg0.win 18).blk t).view.emb_mem_set (ix3 0 ⟨(i 1).val % 1024, by omega⟩ (i 2) : S1x1024x512.Idx)
  have e : ((cfg0.win 18).blk t).view.emb (ix3 0 ⟨(i 1).val % 1024, by omega⟩ (i 2) : S1x1024x512.Idx) = i := by
    refine (emb18 t _ (i 2)).trans (funext fun a => Fin.ext ?_)
    match a with
    | ⟨0, _⟩ => show ((i 0).val * 4 + (i 1).val / 1024) / 4 = (i 0).val; omega
    | ⟨1, _⟩ => show ((i 0).val * 4 + (i 1).val / 1024) % 4 * 1024 + (i 1).val % 1024 = (i 1).val; omega
    | ⟨2, _⟩ => rfl
  rwa [e] at h

/-- The array of keys after the run is the reference's. -/
theorem final18 : (dats m 0 c).arrAt 18 cfg0.N = keys m c :=
  (dats m 0 c).arrAt_eq_of_cover 18 (keys m c) (fun t _ => flushed18_eq m c t) covered18

/-! ## The values -/

/-- The reference's values, of the kernel's arguments. -/
abbrev values : Vec Ideal S8x16x512x256 .bf16 := Cert.Reference3Ideal.Read.val_main_v26 (F := Ideal) (arg0 m c) (arg1 m c) (arg2 m c)

theorem emb20 (n : Fin 4) (d : Fin 512) (l : Fin 256) :
    ((cfg0.win 20).blk t).view.emb (ix4 0 n d l : S1x4x512x256.Idx) = (ix4 (batch t) ⟨t.val % 4 * 4 + n.val, by omega⟩ d l : S8x16x512x256.Idx) := by
  obtain ⟨e0, e1, e2, e3⟩ := idx20 t
  funext a; apply Fin.ext
  match a with
  | ⟨0, _⟩ => show win0_20.index t (0 : Fin 4) * 1 + 1 * 0 = t.val / 4; omega
  | ⟨1, _⟩ => show win0_20.index t (1 : Fin 4) * 4 + 1 * n.val = t.val % 4 * 4 + n.val; omega
  | ⟨2, _⟩ => show win0_20.index t (2 : Fin 4) * 512 + 1 * d.val = d.val; omega
  | ⟨3, _⟩ => show win0_20.index t (3 : Fin 4) * 256 + 1 * l.val = l.val; omega

theorem valueBlock_eq (y : S1x4x512x256.Idx) : valueBlock (iblk m c 0 t) (iblk m c 1 t) (iblk m c 2 t) y = values m c (((cfg0.win 20).blk t).view.emb y) := by
  obtain ⟨n, d, l, rfl⟩ : ∃ (n : Fin 4) (d : Fin 512) (l : Fin 256), y = (ix4 0 n d l : S1x4x512x256.Idx) :=
    ⟨y 1, y 2, y 3, funext fun a => match a with | ⟨0, _⟩ => Subsingleton.elim (α := Fin 1) _ _ | ⟨1, _⟩ => rfl | ⟨2, _⟩ => rfl | ⟨3, _⟩ => rfl⟩
  refine Eq.trans ?_ (Eq.trans (values_apply (arg0 m c) (arg1 m c) (arg2 m c) (batch t) ⟨t.val % 4 * 4 + n.val, by omega⟩ d l).symm (congrArg (values m c) (emb20 t n d l).symm))
  refine congrFun (congrArg₂ dot ((blockRow_eq m c t ⟨n.val * 256 + l.val, by omega⟩).trans ?_) (funext₂ fun k j => block2 m c t j k)) d
  refine congrArg (tokenRow (arg0 m c) (arg1 m c) (batch t)) (Fin.ext ?_)
  show t.val % 4 * 1024 + (n.val * 256 + l.val) = (t.val % 4 * 4 + n.val) * 256 + l.val
  omega

set_option maxHeartbeats 2000000 in
/-- What a grid point writes back is its block of the reference's values. -/
theorem flushed20_eq : (dats m 0 c).flushed 20 t = ((cfg0.win 20).blk t).view.read (Elt Ideal) (values m c) := by
  by_cases h0 : t.val % 4 = 0
  · rw [flushed20_A m c t h0]
    funext y
    exact (out20_A ..).trans (valueBlock_eq m c t y)
  · rw [flushed20_B m c t h0]
    funext y
    exact (out20_B ..).trans (valueBlock_eq m c t y)

/-- Every index of the values is in some grid point's block. -/
theorem covered20 (i : S8x16x512x256.Idx) : ∃ t : Fin cfg0.N, (cfg0.win 20).flush t = true ∧ i ∈ ((cfg0.win 20).blk t).view.set := by
  have h0 : (i 0).val < 8 := (i 0).isLt
  have h1 : (i 1).val < 16 := (i 1).isLt
  let t : Fin cfg0.N := ⟨(i 0).val * 4 + (i 1).val / 4, show (i 0).val * 4 + (i 1).val / 4 < 32 by omega⟩
  refine ⟨t, flush0_20 t, ?_⟩
  have h := ((cfg0.win 20).blk t).view.emb_mem_set (ix4 0 ⟨(i 1).val % 4, by omega⟩ (i 2) (i 3) : S1x4x512x256.Idx)
  have e : ((cfg0.win 20).blk t).view.emb (ix4 0 ⟨(i 1).val % 4, by omega⟩ (i 2) (i 3) : S1x4x512x256.Idx) = i := by
    refine (emb20 t _ (i 2) (i 3)).trans (funext fun a => Fin.ext ?_)
    match a with
    | ⟨0, _⟩ => show ((i 0).val * 4 + (i 1).val / 4) / 4 = (i 0).val; omega
    | ⟨1, _⟩ => show ((i 0).val * 4 + (i 1).val / 4) % 4 * 4 + (i 1).val % 4 = (i 1).val; omega
    | ⟨2, _⟩ => rfl
    | ⟨3, _⟩ => rfl
  rwa [e] at h

/-- The array of values after the run is the reference's. -/
theorem final20 : (dats m 0 c).arrAt 20 cfg0.N = values m c :=
  (dats m 0 c).arrAt_eq_of_cover 20 (values m c) (fun t _ => flushed20_eq m c t) covered20

end Cert.Mix

end
-- ==== Proof.lean ====
/-
  The proof of `Cert.Claim`: the frames are the runs' own, and each call's result is its reference's
  (Proof/Attn/Final.lean, Proof/Post/Final.lean and Proof/Mix/Final.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Attn.Final
public import proofs.«01_k».proof.Proof.Post.Final
public import proofs.«01_k».proof.Proof.Mix.Final
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From real queries, keys and log forget gates the kernel and the reference end with the same array. -/
theorem attention : Cert.algebraic_KernelIdeal_ReferenceIdeal_pre_finite := by
  intro m g m' g' hpre hargs
  have hfin : ∀ c, (Cert.KernelIdeal.Gen.dats m 0 c).arrAt 5 Cert.KernelIdeal.cfg0.N = Cert.Attn.result m c := fun c => by
    obtain ⟨hq, hk, hf⟩ := Cert.Attn.reals_of_finite _ _ _ _ (hpre c)
    exact Cert.Attn.final5 m c hq hk hf
  refine ⟨fun c => Cert.Attn.result m c, ?_, ?_⟩
  · exact (θ_run Cert.KernelIdeal.defs _ _).mono (fun r h c => ⟨(h c).1.trans (hfin c), (h c).2⟩) (Cert.KernelIdeal.Value.run_blocks (F := Ideal) m g)
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    refine (Cert.ReferenceIdeal.Read.val_main_v32_eq m' c).trans ?_
    rw [e0, e1, e2, e3]

/-- So does the reference of the second call. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From any arguments the second call and its reference end with the same array. -/
theorem post : Cert.algebraic_Kernel2Ideal_Reference2Ideal := by
  intro m g m' g' _ hargs
  refine ⟨fun c => Cert.Post.result m c, ?_, ?_⟩
  · exact (θ_run Cert.Kernel2Ideal.defs _ _).mono (fun r h c => ⟨(h c).1.trans (Cert.Post.final15 m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2, e3, e4, e5, e6, e7, e8, e9, e10, e11, e12, e13⟩ := hargs c
    refine (Cert.Reference2Ideal.Read.val_main_v119_eq _).trans ?_
    show Cert.Reference2Ideal.Read.val_main_v119 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) (m' ((c.tc : Thread _ _).loc Cert.Reference2Ideal.main_arg8)) (m' ((c.tc : Thread _ _).loc Cert.Reference2Ideal.main_arg9)) (m' ((c.tc : Thread _ _).loc Cert.Reference2Ideal.main_arg10)) (m' ((c.tc : Thread _ _).loc Cert.Reference2Ideal.main_arg11)) (m' ((c.tc : Thread _ _).loc Cert.Reference2Ideal.main_arg12)) (m' ((c.tc : Thread _ _).loc Cert.Reference2Ideal.main_arg13)) = _
    rw [e0, e1, e2, e3, e4, e5, e6, e7, e8, e9, e10, e11, e12, e13]

/-- So does the reference of the third call. -/
theorem reference3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- From any arguments the third call and its reference end with the same keys and the same values. -/
theorem mix : Cert.algebraic_Kernel3Ideal_Reference3Ideal := by
  intro m g m' g' _ hargs
  refine ⟨fun c => Cert.Mix.keys m c, fun c => Cert.Mix.values m c, ?_, ?_⟩
  · exact (θ_run Cert.Kernel3Ideal.defs _ _).mono
      (fun r h c => ⟨(h c).2.2.1.trans (Cert.Mix.final18 m c), (h c).2.2.2.2.1.trans (Cert.Mix.final20 m c), (h c).2.2.2.2.2.2⟩)
      (Cert.Kernel3Ideal.Value.run_blocks (F := Ideal) m g)
  · refine (θ_run Cert.Reference3Ideal.defs _ _).mono (fun r h c => ⟨(h c).1.trans ?_, (h c).2.1.trans ?_, (h c).2.2⟩)
      (Cert.Reference3Ideal.Value.run (F := Ideal) m' g')
    · obtain ⟨e0, e1, e2, _⟩ := hargs c
      refine (Cert.Reference3Ideal.Read.val_main_v25_eq _ _ _).trans ?_
      show Cert.Reference3Ideal.Read.val_main_v25 (F := Ideal) (m' ((c.tc : Thread _ _).loc Cert.Reference3Ideal.main_arg0)) (m' ((c.tc : Thread _ _).loc Cert.Reference3Ideal.main_arg1)) (m' ((c.tc : Thread _ _).loc Cert.Reference3Ideal.main_arg2)) = _
      rw [e0, e1, e2]
    · obtain ⟨e0, e1, e2, _⟩ := hargs c
      refine (Cert.Reference3Ideal.Read.val_main_v26_eq _ _ _).trans ?_
      show Cert.Reference3Ideal.Read.val_main_v26 (F := Ideal) (m' ((c.tc : Thread _ _).loc Cert.Reference3Ideal.main_arg0)) (m' ((c.tc : Thread _ _).loc Cert.Reference3Ideal.main_arg1)) (m' ((c.tc : Thread _ _).loc Cert.Reference3Ideal.main_arg2)) = _
      rw [e0, e1, e2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    IdealRules.named_const.statement Cert.KernelIdeal.κ "mask" .f32 0xF149F2CA#32 ⊥ rfl, attention, trivial, post, trivial, mix⟩

end Cert.Proof

end
